-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v8_0)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v8_1)) (v5 : (c : Dev Cert.KernelIdeal.nD) → Buf (Elt Ideal) ((c.tc : Thread Cert.KernelIdeal.nD Cert.KernelIdeal.τ).loc Cert.KernelIdeal.main_v10)) (v6 : (c : Dev Cert.KernelIdeal.nD) → Buf (Elt Ideal) ((c.tc : Thread Cert.KernelIdeal.nD Cert.KernelIdeal.τ).loc Cert.KernelIdeal.main_v0_0)) (v7 : (c : Dev Cert.KernelIdeal.nD) → Buf (Elt Ideal) ((c.tc : Thread Cert.KernelIdeal.nD Cert.KernelIdeal.τ).loc Cert.KernelIdeal.main_v0_1)) (v8 : (c : Dev Cert.KernelIdeal.nD) → Buf (Elt Ideal) ((c.tc : Thread Cert.KernelIdeal.nD Cert.KernelIdeal.τ).loc Cert.KernelIdeal.main_v5_1)) (v9 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v8_0) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v8_1) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_v0_0) = v6 c
          ∧ r.2.mem ((c.tc : Thread Cert.KernelIdeal.nD Cert.KernelIdeal.τ).loc Cert.KernelIdeal.main_v0_1) = v7 c
          ∧ r.2.mem ((c.tc : Thread Cert.KernelIdeal.nD Cert.KernelIdeal.τ).loc Cert.KernelIdeal.main_v5_1) = v8 c
          ∧ r.2.mem ((c.tc : Thread Cert.KernelIdeal.nD Cert.KernelIdeal.τ).loc Cert.KernelIdeal.main_v5_2) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_v0_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x2816 : Shape := ⟨3, ![6, 2048, 2816]⟩
abbrev S6x2048x22 : Shape := ⟨3, ![6, 2048, 22]⟩
abbrev S6x2048x2048 : Shape := ⟨3, ![6, 2048, 2048]⟩
abbrev S6x2816x2816 : Shape := ⟨3, ![6, 2816, 2816]⟩
abbrev S6x2048 : Shape := ⟨2, ![6, 2048]⟩
abbrev S6x2816 : Shape := ⟨2, ![6, 2816]⟩
abbrev S6 : Shape := ⟨1, ![6]⟩
abbrev S1x256x2816 : Shape := ⟨3, ![1, 256, 2816]⟩
abbrev S1x256x22 : Shape := ⟨3, ![1, 256, 22]⟩
abbrev S1x256x128 : Shape := ⟨3, ![1, 256, 128]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩
abbrev S6x2048x1 : Shape := ⟨3, ![6, 2048, 1]⟩
abbrev S1x2048x512 : Shape := ⟨3, ![1, 2048, 512]⟩
abbrev S1x512x1 : Shape := ⟨3, ![1, 512, 1]⟩
abbrev S1x2048x1408 : Shape := ⟨3, ![1, 2048, 1408]⟩
abbrev S1x512x1408 : Shape := ⟨3, ![1, 512, 1408]⟩
abbrev S2048x512 : Shape := ⟨2, ![2048, 512]⟩
abbrev S512x1 : Shape := ⟨2, ![512, 1]⟩
abbrev S2048x1408 : Shape := ⟨2, ![2048, 1408]⟩
abbrev S512x1408 : Shape := ⟨2, ![512, 1408]⟩
abbrev S6x1x2048 : Shape := ⟨3, ![6, 1, 2048]⟩
abbrev S6x1x2816 : Shape := ⟨3, ![6, 1, 2816]⟩
abbrev S1x2816x2816 : Shape := ⟨3, ![1, 2816, 2816]⟩
abbrev S1x1x2816 : Shape := ⟨3, ![1, 1, 2816]⟩
abbrev S1x2816x256 : Shape := ⟨3, ![1, 2816, 256]⟩
abbrev S2816x256 : Shape := ⟨2, ![2816, 256]⟩
abbrev S1x1x256 : Shape := ⟨3, ![1, 1, 256]⟩
abbrev S1x256 : Shape := ⟨2, ![1, 256]⟩
abbrev S256x2816 : Shape := ⟨2, ![256, 2816]⟩
abbrev S256x256 : Shape := ⟨2, ![256, 256]⟩
abbrev S1 : Shape := ⟨1, ![1]⟩
abbrev S1x256x2048 : Shape := ⟨3, ![1, 256, 2048]⟩
abbrev S1x1x2048 : Shape := ⟨3, ![1, 1, 2048]⟩
abbrev S1x2048x2816 : Shape := ⟨3, ![1, 2048, 2816]⟩
abbrev S256x2048 : Shape := ⟨2, ![256, 2048]⟩
abbrev S1x2048 : Shape := ⟨2, ![1, 2048]⟩
abbrev S1x2048x256 : Shape := ⟨3, ![1, 2048, 256]⟩
abbrev S2048x256 : Shape := ⟨2, ![2048, 256]⟩
abbrev S1x256x256 : Shape := ⟨3, ![1, 256, 256]⟩
abbrev S1x2816 : Shape := ⟨2, ![1, 2816]⟩
abbrev S1x2048x2048 : Shape := ⟨3, ![1, 2048, 2048]⟩

abbrev nBuf : Space → Nat
  | .hbm => 35
  | .vmem => 92
  | .smem => 5
  | _ => 0

abbrev bufTy : (tb : Table) → Fin (tcTables nBuf tb) → BufTy
  | .hbm, ⟨0, _⟩ => ⟨S6x2048x2816, .f32⟩
  | .hbm, ⟨1, _⟩ => ⟨S6x2048x2816, .bf16⟩
  | .hbm, ⟨2, _⟩ => ⟨S6x2048x2816, .i8⟩
  | .hbm, ⟨3, _⟩ => ⟨S6x2048x22, .f32⟩
  | .hbm, ⟨4, _⟩ => ⟨S6x2048x2816, .i8⟩
  | .hbm, ⟨5, _⟩ => ⟨S6x2048x22, .f32⟩
  | .hbm, ⟨6, _⟩ => ⟨S6x2048x2048, .f32⟩
  | .hbm, ⟨7, _⟩ => ⟨S6x2816x2816, .f32⟩
  | .hbm, ⟨8, _⟩ => ⟨S6x2048x2048, .i8⟩
  | .hbm, ⟨9, _⟩ => ⟨S6x2048, .f32⟩
  | .hbm, ⟨10, _⟩ => ⟨S6x2816x2816, .i8⟩
  | .hbm, ⟨11, _⟩ => ⟨S6x2816, .f32⟩
  | .hbm, ⟨12, _⟩ => ⟨S6, .f32⟩
  | .hbm, ⟨13, _⟩ => ⟨S6, .f32⟩
  | .hbm, ⟨14, _⟩ => ⟨S6, .f32⟩
  | .hbm, ⟨15, _⟩ => ⟨S6, .f32⟩
  | .hbm, ⟨16, _⟩ => ⟨S6, .f32⟩
  | .hbm, ⟨17, _⟩ => ⟨S6x2048x2816, .i8⟩
  | .hbm, ⟨18, _⟩ => ⟨S6x2048x22, .f32⟩
  | .hbm, ⟨19, _⟩ => ⟨S6x2048x2816, .bf16⟩
  | .hbm, ⟨20, _⟩ => ⟨S6x2048x1, .f32⟩
  | .hbm, ⟨21, _⟩ => ⟨S6x2048x2816, .bf16⟩
  | .hbm, ⟨22, _⟩ => ⟨S6x2048x2816, .bf16⟩
  | .hbm, ⟨23, _⟩ => ⟨S6x1x2048, .f32⟩
  | .hbm, ⟨24, _⟩ => ⟨S6x1x2816, .f32⟩
  | .hbm, ⟨25, _⟩ => ⟨S6x2048x2816, .bf16⟩
  | .hbm, ⟨26, _⟩ => ⟨S6x2048x2816, .i8⟩
  | .hbm, ⟨27, _⟩ => ⟨S6x2048x22, .f32⟩
  | .hbm, ⟨28, _⟩ => ⟨S6x2048x2816, .bf16⟩
  | .hbm, ⟨29, _⟩ => ⟨S6x2048x2816, .f32⟩
  | .hbm, ⟨30, _⟩ => ⟨S6x2048x2816, .f32⟩
  | .hbm, ⟨31, _⟩ => ⟨S6x2048x2048, .f32⟩
  | .hbm, ⟨32, _⟩ => ⟨S6x2048x2048, .bf16⟩
  | .hbm, ⟨33, _⟩ => ⟨S6x2816x2816, .f32⟩
  | .hbm, ⟨34, _⟩ => ⟨S6x2816x2816, .bf16⟩
  | .local _ .vmem, ⟨0, _⟩ => ⟨S1x256x2816, .i8⟩
  | .local _ .vmem, ⟨1, _⟩ => ⟨S1x256x2816, .i8⟩
  | .local _ .vmem, ⟨2, _⟩ => ⟨S1x256x22, .f32⟩
  | .local _ .vmem, ⟨3, _⟩ => ⟨S1x256x22, .f32⟩
  | .local _ .vmem, ⟨4, _⟩ => ⟨S1x256x2816, .bf16⟩
  | .local _ .vmem, ⟨5, _⟩ => ⟨S1x256x2816, .bf16⟩
  | .local _ .vmem, ⟨6, _⟩ => ⟨S1x256x2816, .i8⟩
  | .local _ .vmem, ⟨7, _⟩ => ⟨S1x256x2816, .i8⟩
  | .local _ .vmem, ⟨8, _⟩ => ⟨S1x256x22, .f32⟩
  | .local _ .vmem, ⟨9, _⟩ => ⟨S1x256x22, .f32⟩
  | .local _ .vmem, ⟨10, _⟩ => ⟨S1x256x2816, .bf16⟩
  | .local _ .vmem, ⟨11, _⟩ => ⟨S1x256x2816, .bf16⟩
  | .local _ .vmem, ⟨12, _⟩ => ⟨S1x2048x512, .i8⟩
  | .local _ .vmem, ⟨13, _⟩ => ⟨S1x2048x512, .i8⟩
  | .local _ .vmem, ⟨14, _⟩ => ⟨S1x512x1, .f32⟩
  | .local _ .vmem, ⟨15, _⟩ => ⟨S1x512x1, .f32⟩
  | .local _ .vmem, ⟨16, _⟩ => ⟨S1x2048x1408, .bf16⟩
  | .local _ .vmem, ⟨17, _⟩ => ⟨S1x2048x1408, .bf16⟩
  | .local _ .vmem, ⟨18, _⟩ => ⟨S1x2048x1408, .bf16⟩
  | .local _ .vmem, ⟨19, _⟩ => ⟨S1x2048x1408, .bf16⟩
  | .local _ .vmem, ⟨20, _⟩ => ⟨S1x512x1408, .bf16⟩
  | .local _ .vmem, ⟨21, _⟩ => ⟨S1x512x1408, .bf16⟩
  | .local _ .vmem, ⟨22, _⟩ => ⟨S1x512x1408, .bf16⟩
  | .local _ .vmem, ⟨23, _⟩ => ⟨S1x512x1408, .bf16⟩
  | .local _ .vmem, ⟨24, _⟩ => ⟨S1x256x2816, .bf16⟩
  | .local _ .vmem, ⟨25, _⟩ => ⟨S1x256x2816, .bf16⟩
  | .local _ .vmem, ⟨26, _⟩ => ⟨S1x256x2816, .bf16⟩
  | .local _ .vmem, ⟨27, _⟩ => ⟨S1x256x2816, .bf16⟩
  | .local _ .vmem, ⟨28, _⟩ => ⟨S1x2816x2816, .i8⟩
  | .local _ .vmem, ⟨29, _⟩ => ⟨S1x2816x2816, .i8⟩
  | .local _ .vmem, ⟨30, _⟩ => ⟨S1x1x2816, .f32⟩
  | .local _ .vmem, ⟨31, _⟩ => ⟨S1x1x2816, .f32⟩
  | .local _ .vmem, ⟨32, _⟩ => ⟨S1x256x2816, .i8⟩
  | .local _ .vmem, ⟨33, _⟩ => ⟨S1x256x2816, .i8⟩
  | .local _ .vmem, ⟨34, _⟩ => ⟨S1x256x22, .f32⟩
  | .local _ .vmem, ⟨35, _⟩ => ⟨S1x256x22, .f32⟩
  | .local _ .vmem, ⟨36, _⟩ => ⟨S1x256x2816, .bf16⟩
  | .local _ .vmem, ⟨37, _⟩ => ⟨S1x256x2816, .bf16⟩
  | .local _ .vmem, ⟨38, _⟩ => ⟨S1x256x2816, .i8⟩
  | .local _ .vmem, ⟨39, _⟩ => ⟨S1x256x2816, .i8⟩
  | .local _ .vmem, ⟨40, _⟩ => ⟨S1x256x22, .f32⟩
  | .local _ .vmem, ⟨41, _⟩ => ⟨S1x256x22, .f32⟩
  | .local _ .vmem, ⟨42, _⟩ => ⟨S1x256x2048, .i8⟩
  | .local _ .vmem, ⟨43, _⟩ => ⟨S1x256x2048, .i8⟩
  | .local _ .vmem, ⟨44, _⟩ => ⟨S1x1x2048, .f32⟩
  | .local _ .vmem, ⟨45, _⟩ => ⟨S1x1x2048, .f32⟩
  | .local _ .vmem, ⟨46, _⟩ => ⟨S1x2048x2816, .bf16⟩
  | .local _ .vmem, ⟨47, _⟩ => ⟨S1x2048x2816, .bf16⟩
  | .local _ .vmem, ⟨48, _⟩ => ⟨S1x256x2816, .bf16⟩
  | .local _ .vmem, ⟨49, _⟩ => ⟨S1x256x2816, .bf16⟩
  | .local _ .vmem, ⟨50, _⟩ => ⟨S1x256x2816, .bf16⟩
  | .local _ .vmem, ⟨51, _⟩ => ⟨S1x256x2816, .bf16⟩
  | .local _ .vmem, ⟨52, _⟩ => ⟨S1x2816x2816, .i8⟩
  | .local _ .vmem, ⟨53, _⟩ => ⟨S1x2816x2816, .i8⟩
  | .local _ .vmem, ⟨54, _⟩ => ⟨S1x1x2816, .f32⟩
  | .local _ .vmem, ⟨55, _⟩ => ⟨S1x1x2816, .f32⟩
  | .local _ .vmem, ⟨56, _⟩ => ⟨S1x256x2816, .f32⟩
  | .local _ .vmem, ⟨57, _⟩ => ⟨S1x256x2816, .f32⟩
  | .local _ .vmem, ⟨58, _⟩ => ⟨S1x256x2816, .f32⟩
  | .local _ .vmem, ⟨59, _⟩ => ⟨S1x256x2816, .f32⟩
  | .local _ .vmem, ⟨60, _⟩ => ⟨S1x256x2816, .f32⟩
  | .local _ .vmem, ⟨61, _⟩ => ⟨S1x256x2816, .f32⟩
  | .local _ .vmem, ⟨62, _⟩ => ⟨S1x256x2816, .bf16⟩
  | .local _ .vmem, ⟨63, _⟩ => ⟨S1x256x2816, .bf16⟩
  | .local _ .vmem, ⟨64, _⟩ => ⟨S1x2048x2816, .bf16⟩
  | .local _ .vmem, ⟨65, _⟩ => ⟨S1x2048x2816, .bf16⟩
  | .local _ .vmem, ⟨66, _⟩ => ⟨S1x256x2048, .f32⟩
  | .local _ .vmem, ⟨67, _⟩ => ⟨S1x256x2048, .f32⟩
  | .local _ .vmem, ⟨68, _⟩ => ⟨S1x2048x2048, .i8⟩
  | .local _ .vmem, ⟨69, _⟩ => ⟨S1x2048x2048, .i8⟩
  | .local _ .vmem, ⟨70, _⟩ => ⟨S1x1x2048, .f32⟩
  | .local _ .vmem, ⟨71, _⟩ => ⟨S1x1x2048, .f32⟩
  | .local _ .vmem, ⟨72, _⟩ => ⟨S1x256x2048, .f32⟩
  | .local _ .vmem, ⟨73, _⟩ => ⟨S1x256x2048, .f32⟩
  | .local _ .vmem, ⟨74, _⟩ => ⟨S1x256x2048, .bf16⟩
  | .local _ .vmem, ⟨75, _⟩ => ⟨S1x256x2048, .bf16⟩
  | .local _ .vmem, ⟨76, _⟩ => ⟨S1x2048x256, .bf16⟩
  | .local _ .vmem, ⟨77, _⟩ => ⟨S1x2048x256, .bf16⟩
  | .local _ .vmem, ⟨78, _⟩ => ⟨S1x2048x2816, .bf16⟩
  | .local _ .vmem, ⟨79, _⟩ => ⟨S1x2048x2816, .bf16⟩
  | .local _ .vmem, ⟨80, _⟩ => ⟨S1x256x2816, .f32⟩
  | .local _ .vmem, ⟨81, _⟩ => ⟨S1x256x2816, .f32⟩
  | .local _ .vmem, ⟨82, _⟩ => ⟨S1x256x2816, .f32⟩
  | .local _ .vmem, ⟨83, _⟩ => ⟨S1x256x2816, .f32⟩
  | .local _ .vmem, ⟨84, _⟩ => ⟨S1x256x2816, .f32⟩
  | .local _ .vmem, ⟨85, _⟩ => ⟨S1x256x2816, .f32⟩
  | .local _ .vmem, ⟨86, _⟩ => ⟨S1x2816x2816, .i8⟩
  | .local _ .vmem, ⟨87, _⟩ => ⟨S1x2816x2816, .i8⟩
  | .local _ .vmem, ⟨88, _⟩ => ⟨S1x1x2816, .f32⟩
  | .local _ .vmem, ⟨89, _⟩ => ⟨S1x1x2816, .f32⟩
  | .local _ .vmem, ⟨90, _⟩ => ⟨S1x256x2816, .bf16⟩
  | .local _ .vmem, ⟨91, _⟩ => ⟨S1x256x2816, .bf16⟩
  | .local _ .smem, ⟨0, _⟩ => ⟨S6, .f32⟩
  | .local _ .smem, ⟨1, _⟩ => ⟨S6, .f32⟩
  | .local _ .smem, ⟨2, _⟩ => ⟨S6, .f32⟩
  | .local _ .smem, ⟨3, _⟩ => ⟨S6, .f32⟩
  | .local _ .smem, ⟨4, _⟩ => ⟨S6, .f32⟩
  | _, _ => ⟨S6x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v1 : Ref sig .tc := ⟨.hbm, 20, rfl⟩
abbrev main_v2_0 : Ref sig .tc := ⟨.hbm, 21, rfl⟩
abbrev main_v2_1 : Ref sig .tc := ⟨.hbm, 22, rfl⟩
abbrev main_v3 : Ref sig .tc := ⟨.hbm, 23, rfl⟩
abbrev main_v4 : Ref sig .tc := ⟨.hbm, 24, rfl⟩
abbrev main_v5_0 : Ref sig .tc := ⟨.hbm, 25, rfl⟩
abbrev main_v5_1 : Ref sig .tc := ⟨.hbm, 26, rfl⟩
abbrev main_v5_2 : Ref sig .tc := ⟨.hbm, 27, rfl⟩
abbrev main_v6 : Ref sig .tc := ⟨.hbm, 28, rfl⟩
abbrev main_v7_0 : Ref sig .tc := ⟨.hbm, 29, rfl⟩
abbrev main_v7_1 : Ref sig .tc := ⟨.hbm, 30, rfl⟩
abbrev main_v8_0 : Ref sig .tc := ⟨.hbm, 31, rfl⟩
abbrev main_v8_1 : Ref sig .tc := ⟨.hbm, 32, rfl⟩
abbrev main_v9 : Ref sig .tc := ⟨.hbm, 33, rfl⟩
abbrev main_v10 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg9_1 : Ref sig .tc := ⟨.vmem, 37, rfl⟩
abbrev cc2_stg10_0 : Ref sig .tc := ⟨.vmem, 38, rfl⟩
abbrev cc2_stg10_1 : Ref sig .tc := ⟨.vmem, 39, rfl⟩
abbrev cc2_stg11_0 : Ref sig .tc := ⟨.vmem, 40, rfl⟩
abbrev cc2_stg11_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc4_stg6_0 : Ref sig .tc := ⟨.vmem, 58, rfl⟩
abbrev cc4_stg6_1 : Ref sig .tc := ⟨.vmem, 59, rfl⟩
abbrev cc4_stg7_0 : Ref sig .tc := ⟨.vmem, 60, rfl⟩
abbrev cc4_stg7_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg2_1 : Ref sig .tc := ⟨.vmem, 67, rfl⟩
abbrev cc5_stg3_0 : Ref sig .tc := ⟨.vmem, 68, rfl⟩
abbrev cc5_stg3_1 : Ref sig .tc := ⟨.vmem, 69, rfl⟩
abbrev cc5_stg4_0 : Ref sig .tc := ⟨.vmem, 70, rfl⟩
abbrev cc5_stg4_1 : Ref sig .tc := ⟨.vmem, 71, rfl⟩
abbrev cc5_stg5_0 : Ref sig .tc := ⟨.vmem, 72, rfl⟩
abbrev cc5_stg5_1 : Ref sig .tc := ⟨.vmem, 73, rfl⟩
abbrev cc5_stg6_0 : Ref sig .tc := ⟨.vmem, 74, rfl⟩
abbrev cc5_stg6_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg2_1 : Ref sig .tc := ⟨.vmem, 81, rfl⟩
abbrev cc6_stg3_0 : Ref sig .tc := ⟨.vmem, 82, rfl⟩
abbrev cc6_stg3_1 : Ref sig .tc := ⟨.vmem, 83, rfl⟩
abbrev cc7_stg0_0 : Ref sig .tc := ⟨.vmem, 84, rfl⟩
abbrev cc7_stg0_1 : Ref sig .tc := ⟨.vmem, 85, rfl⟩
abbrev cc7_stg1_0 : Ref sig .tc := ⟨.vmem, 86, rfl⟩
abbrev cc7_stg1_1 : Ref sig .tc := ⟨.vmem, 87, rfl⟩
abbrev cc7_stg2_0 : Ref sig .tc := ⟨.vmem, 88, rfl⟩
abbrev cc7_stg2_1 : Ref sig .tc := ⟨.vmem, 89, rfl⟩
abbrev cc7_stg3_0 : Ref sig .tc := ⟨.vmem, 90, rfl⟩
abbrev cc7_stg3_1 : Ref sig .tc := ⟨.vmem, 91, rfl⟩
abbrev cc2_stg0_0 : Ref sig .tc := ⟨.smem, 0, rfl⟩
abbrev cc2_stg1_0 : Ref sig .tc := ⟨.smem, 1, rfl⟩
abbrev cc2_stg2_0 : Ref sig .tc := ⟨.smem, 2, rfl⟩
abbrev cc4_stg0_0 : Ref sig .tc := ⟨.smem, 3, rfl⟩
abbrev cc4_stg1_0 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc2_sem7_1 : DmaSem sig := 36
abbrev cc2_sem8_0 : DmaSem sig := 37
abbrev cc2_sem8_1 : DmaSem sig := 38
abbrev cc2_sem9_0 : DmaSem sig := 39
abbrev cc2_sem9_1 : DmaSem sig := 40
abbrev cc2_sem10_0 : DmaSem sig := 41
abbrev cc2_sem10_1 : DmaSem sig := 42
abbrev cc2_sem11_0 : DmaSem sig := 43
abbrev cc2_sem11_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem3_1 : DmaSem sig := 52
abbrev cc4_sem0_0 : DmaSem sig := 53
abbrev cc4_sem1_0 : DmaSem sig := 54
abbrev cc4_sem2_0 : DmaSem sig := 55
abbrev cc4_sem2_1 : DmaSem sig := 56
abbrev cc4_sem3_0 : DmaSem sig := 57
abbrev cc4_sem3_1 : DmaSem sig := 58
abbrev cc4_sem4_0 : DmaSem sig := 59
abbrev cc4_sem4_1 : DmaSem sig := 60
abbrev cc4_sem5_0 : DmaSem sig := 61
abbrev cc4_sem5_1 : DmaSem sig := 62
abbrev cc4_sem6_0 : DmaSem sig := 63
abbrev cc4_sem6_1 : DmaSem sig := 64
abbrev cc4_sem7_0 : DmaSem sig := 65
abbrev cc4_sem7_1 : DmaSem sig := 66
abbrev cc5_sem0_0 : DmaSem sig := 67
abbrev cc5_sem0_1 : DmaSem sig := 68
abbrev cc5_sem1_0 : DmaSem sig := 69
abbrev cc5_sem1_1 : DmaSem sig := 70
abbrev cc5_sem2_0 : DmaSem sig := 71
abbrev cc5_sem2_1 : DmaSem sig := 72
abbrev cc5_sem3_0 : DmaSem sig := 73
abbrev cc5_sem3_1 : DmaSem sig := 74
abbrev cc5_sem4_0 : DmaSem sig := 75
abbrev cc5_sem4_1 : DmaSem sig := 76
abbrev cc5_sem5_0 : DmaSem sig := 77
abbrev cc5_sem5_1 : DmaSem sig := 78
abbrev cc5_sem6_0 : DmaSem sig := 79
abbrev cc5_sem6_1 : DmaSem sig := 80
abbrev cc6_sem0_0 : DmaSem sig := 81
abbrev cc6_sem0_1 : DmaSem sig := 82
abbrev cc6_sem1_0 : DmaSem sig := 83
abbrev cc6_sem1_1 : DmaSem sig := 84
abbrev cc6_sem2_0 : DmaSem sig := 85
abbrev cc6_sem2_1 : DmaSem sig := 86
abbrev cc6_sem3_0 : DmaSem sig := 87
abbrev cc6_sem3_1 : DmaSem sig := 88
abbrev cc7_sem0_0 : DmaSem sig := 89
abbrev cc7_sem0_1 : DmaSem sig := 90
abbrev cc7_sem1_0 : DmaSem sig := 91
abbrev cc7_sem1_1 : DmaSem sig := 92
abbrev cc7_sem2_0 : DmaSem sig := 93
abbrev cc7_sem2_1 : DmaSem sig := 94
abbrev cc7_sem3_0 : DmaSem sig := 95
abbrev cc7_sem3_1 : DmaSem sig := 96

abbrev nD : Nat := 1
abbrev τ : Topo := Topo.v7x

variable {F : FTy → Type} [FloatOps F]

abbrev grid0 : Pipeline.Grid := ⟨2, ![6, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2816 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x22 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2816 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x22 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![6, 2, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2048x512 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x2048x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨2, ![6, 8], ![false, false]⟩

def k2_off1 (i : grid2.Coords) : Fin 1 → Nat :=
  let arg0 : BitVec 32 := BitVec.ofNat 32 (i 0).val
  let v32 : Index := Scalar.indexCast arg0
  ![v32.toNat]
def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .smem S6 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .smem S6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .smem S6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x256x2816 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x2816 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x2816x2816 .i8 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1x2816 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x256x2816 .i8 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x256x22 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x256x2816 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x256x2816 .i8 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S1x256x22 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev grid3 : Pipeline.Grid := ⟨2, ![6, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x2048 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x2816 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x256x2816 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![6, 8], ![false, false]⟩

def k4_off1 (i : grid4.Coords) : Fin 1 → Nat :=
  let arg0 : BitVec 32 := BitVec.ofNat 32 (i 0).val
  let v16 : Index := Scalar.indexCast arg0
  ![v16.toNat]
def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 1 → Memref sig .tc .smem S6 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .smem S6 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1x256x2816 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x2816x2816 .i8 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x1x2816 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1x256x2816 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x256x2816 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1x256x2816 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨2, ![6, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x256x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x2048x2816 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x256x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x2048x2048 .i8 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x1x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S1x256x2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x256x2048 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev grid6 : Pipeline.Grid := ⟨2, ![6, 11], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x2048x2816 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x256x2816 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x256x2816 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![6, 11], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S1x256x2816 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x2816x2816 .i8 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x1x2816 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x256x2816 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]
-- ==== ReferenceIdeal.lean ====
abbrev S6x2048x2816 : Shape := ⟨3, ![6, 2048, 2816]⟩
abbrev S6x2048x22 : Shape := ⟨3, ![6, 2048, 22]⟩
abbrev S6x2048x2048 : Shape := ⟨3, ![6, 2048, 2048]⟩
abbrev S6x2816x2816 : Shape := ⟨3, ![6, 2816, 2816]⟩
abbrev S6x2048 : Shape := ⟨2, ![6, 2048]⟩
abbrev S6x2816 : Shape := ⟨2, ![6, 2816]⟩
abbrev S6 : Shape := ⟨1, ![6]⟩
abbrev S6x2048x22x128 : Shape := ⟨4, ![6, 2048, 22, 128]⟩
abbrev S6x2048x22x1 : Shape := ⟨4, ![6, 2048, 22, 1]⟩
abbrev S6x2048x1 : Shape := ⟨3, ![6, 2048, 1]⟩
abbrev S6x1x2816 : Shape := ⟨3, ![6, 1, 2816]⟩
abbrev S6x1x1 : Shape := ⟨3, ![6, 1, 1]⟩
abbrev S6x1x2048 : Shape := ⟨3, ![6, 1, 2048]⟩

abbrev nBuf : Space → Nat
  | .hbm => 27
  | .vmem => 27
  | .smem => 0
  | _ => 0

abbrev bufTy : (tb : Table) → Fin (tcTables nBuf tb) → BufTy
  | .hbm, ⟨0, _⟩ => ⟨S6x2048x2816, .f32⟩
  | .hbm, ⟨1, _⟩ => ⟨S6x2048x2816, .bf16⟩
  | .hbm, ⟨2, _⟩ => ⟨S6x2048x2816, .i8⟩
  | .hbm, ⟨3, _⟩ => ⟨S6x2048x22, .f32⟩
  | .hbm, ⟨4, _⟩ => ⟨S6x2048x2816, .i8⟩
  | .hbm, ⟨5, _⟩ => ⟨S6x2048x22, .f32⟩
  | .hbm, ⟨6, _⟩ => ⟨S6x2048x2048, .f32⟩
  | .hbm, ⟨7, _⟩ => ⟨S6x2816x2816, .f32⟩
  | .hbm, ⟨8, _⟩ => ⟨S6x2048x2048, .i8⟩
  | .hbm, ⟨9, _⟩ => ⟨S6x2048, .f32⟩
  | .hbm, ⟨10, _⟩ => ⟨S6x2816x2816, .i8⟩
  | .hbm, ⟨11, _⟩ => ⟨S6x2816, .f32⟩
  | .hbm, ⟨12, _⟩ => ⟨S6, .f32⟩
  | .hbm, ⟨13, _⟩ => ⟨S6, .f32⟩
  | .hbm, ⟨14, _⟩ => ⟨S6, .f32⟩
  | .hbm, ⟨15, _⟩ => ⟨S6, .f32⟩
  | .hbm, ⟨16, _⟩ => ⟨S6, .f32⟩
  | .hbm, ⟨17, _⟩ => ⟨S6x2048x2816, .f32⟩
  | .hbm, ⟨18, _⟩ => ⟨S6x2048x2816, .f32⟩
  | .hbm, ⟨19, _⟩ => ⟨S6x2048x2048, .f32⟩
  | .hbm, ⟨20, _⟩ => ⟨S6x2816x2816, .f32⟩
  | .hbm, ⟨21, _⟩ => ⟨S6x2048x2048, .bf16⟩
  | .hbm, ⟨22, _⟩ => ⟨S6x2816x2816, .bf16⟩
  | .hbm, ⟨23, _⟩ => ⟨S6x2048x2816, .i8⟩
  | .hbm, ⟨24, _⟩ => ⟨S6x2048x22, .f32⟩
  | .hbm, ⟨25, _⟩ => ⟨S6x2048x2816, .i8⟩
  | .hbm, ⟨26, _⟩ => ⟨S6x2048x22, .f32⟩
  | .local _ .vmem, ⟨0, _⟩ => ⟨S6x2048x2816, .f32⟩
  | .local _ .vmem, ⟨1, _⟩ => ⟨S6x2048x2816, .bf16⟩
  | .local _ .vmem, ⟨2, _⟩ => ⟨S6x2048x2816, .i8⟩
  | .local _ .vmem, ⟨3, _⟩ => ⟨S6x2048x22, .f32⟩
  | .local _ .vmem, ⟨4, _⟩ => ⟨S6x2048x2816, .i8⟩
  | .local _ .vmem, ⟨5, _⟩ => ⟨S6x2048x22, .f32⟩
  | .local _ .vmem, ⟨6, _⟩ => ⟨S6x2048x2048, .f32⟩
  | .local _ .vmem, ⟨7, _⟩ => ⟨S6x2816x2816, .f32⟩
  | .local _ .vmem, ⟨8, _⟩ => ⟨S6x2048x2048, .i8⟩
  | .local _ .vmem, ⟨9, _⟩ => ⟨S6x2048, .f32⟩
  | .local _ .vmem, ⟨10, _⟩ => ⟨S6x2816x2816, .i8⟩
  | .local _ .vmem, ⟨11, _⟩ => ⟨S6x2816, .f32⟩
  | .local _ .vmem, ⟨12, _⟩ => ⟨S6, .f32⟩
  | .local _ .vmem, ⟨13, _⟩ => ⟨S6, .f32⟩
  | .local _ .vmem, ⟨14, _⟩ => ⟨S6, .f32⟩
  | .local _ .vmem, ⟨15, _⟩ => ⟨S6, .f32⟩
  | .local _ .vmem, ⟨16, _⟩ => ⟨S6, .f32⟩
  | .local _ .vmem, ⟨17, _⟩ => ⟨S6x2048x2816, .f32⟩
  | .local _ .vmem, ⟨18, _⟩ => ⟨S6x2048x2816, .f32⟩
  | .local _ .vmem, ⟨19, _⟩ => ⟨S6x2048x2048, .f32⟩
  | .local _ .vmem, ⟨20, _⟩ => ⟨S6x2816x2816, .f32⟩
  | .local _ .vmem, ⟨21, _⟩ => ⟨S6x2048x2048, .bf16⟩
  | .local _ .vmem, ⟨22, _⟩ => ⟨S6x2816x2816, .bf16⟩
  | .local _ .vmem, ⟨23, _⟩ => ⟨S6x2048x2816, .i8⟩
  | .local _ .vmem, ⟨24, _⟩ => ⟨S6x2048x22, .f32⟩
  | .local _ .vmem, ⟨25, _⟩ => ⟨S6x2048x2816, .i8⟩
  | .local _ .vmem, ⟨26, _⟩ => ⟨S6x2048x22, .f32⟩
  | _, _ => ⟨S6x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev main_v0_6 : Ref sig .tc := ⟨.hbm, 23, rfl⟩
abbrev main_v0_7 : Ref sig .tc := ⟨.hbm, 24, rfl⟩
abbrev main_v0_8 : Ref sig .tc := ⟨.hbm, 25, rfl⟩
abbrev main_v0_9 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S6x2048x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2048x2816 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x2048x22 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x2816 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2048x22 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2816x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2048x2048 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x2816x2816 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x2048x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S6x2048x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S6x2048x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S6x2816x2816 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S6x2048x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S6x2816x2816 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S6x2048x2816 .i8 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S6x2048x22 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S6x2048x2816 .i8 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S6x2048x22 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Proof.Run.lean ====
module
public import proofs.«01_k».proof.Proof.Gen.KernelIdeal.Frame
@[expose] public section
set_option maxRecDepth 16384

/-!
The kernel's run: every execution ends, with every buffer of the program at what the fold over its passes says.
-/

noncomputable section

namespace Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, nothing faulting, with each buffer outside the passes' own at its value after the last pass. -/
theorem run_fold : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => h)

end Cert.KernelIdeal.Value
-- ==== Proof.Spec.lean ====
module
public import Idealize.ShloMosaic.Lib.Pointwise
@[expose] public section

/-!
The mathematics of one optimizer step, array by array, over exact arithmetic: no tiles, no grid, no program.
Both programs are shown to compute these functions. An array of shape `[6, 2048, 2816]` is six matrices; a row is
cut into 22 blocks of 128 entries, each with one scale.
-/

noncomputable section

namespace Cert.Spec
open Idealize.ShloMosaic Idealize.ShloMosaic.TcCoe

abbrev S6 : Shape := ⟨1, ![6]⟩
abbrev S6x2048 : Shape := ⟨2, ![6, 2048]⟩
abbrev S6x2816 : Shape := ⟨2, ![6, 2816]⟩
abbrev S6x2048x22 : Shape := ⟨3, ![6, 2048, 22]⟩
abbrev S6x2048x2048 : Shape := ⟨3, ![6, 2048, 2048]⟩
abbrev S6x2048x2816 : Shape := ⟨3, ![6, 2048, 2816]⟩
abbrev S6x2816x2816 : Shape := ⟨3, ![6, 2816, 2816]⟩

/-- The block of 128 to which entry `j` of a row belongs. -/
abbrev blk (j : Fin 2816) : Fin 22 := ⟨(j : ℕ) / 128, by omega⟩

/-- Entry `k` of block `b` of a row. -/
abbrev ent (b : Fin 22) (k : Fin 128) : Fin 2816 := ⟨(b : ℕ) * 128 + (k : ℕ), by omega⟩

/-- The new momentum: `0.9` times the decoded old one plus `0.1` times the gradient. -/
def mom (g : FVec Ideal S6x2048x2816 .bf16) (mc : IVec S6x2048x2816 8) (ms : FVec Ideal S6x2048x22 .f32) :
    FVec Ideal S6x2048x2816 .f32 := fun j =>
  Scalar.ofBits (F := Ideal) .f32 0x3F666666#32 * (FloatOps.sitofp (F := Ideal) .f32 (mc j) * ms (ix3 (j 0) (j 1) (blk (j 2))))
    + Scalar.ofBits (F := Ideal) .f32 0x3DCCCCCD#32 * g j

/-- The largest absolute value in a block of 128. -/
def amax (m : FVec Ideal S6x2048x2816 .f32) : FVec Ideal S6x2048x22 .f32 := fun i =>
  Finset.fold max (Scalar.ofBits (F := Ideal) .f32 0xFF800000#32)
    (fun k : Fin 128 => (FloatOps.absf (m (ix3 (i 0) (i 1) (ent (i 2) k))) : Ideal .f32)) Finset.univ

/-- The scale of a block of the momentum: its largest absolute value over 127, or 1 when that is 0. -/
def mScale (m : FVec Ideal S6x2048x2816 .f32) : FVec Ideal S6x2048x22 .f32 := fun i =>
  if amax m i = 0 then 1 else Ideal.div (amax m i) (Scalar.ofBits (F := Ideal) .f32 0x42FE0000#32)

/-- The signed code of an entry: entry over scale, rounded to the nearest integer, cut off at ±127. -/
def mCode (m : FVec Ideal S6x2048x2816 .f32) : IVec S6x2048x2816 8 := fun j =>
  FloatOps.fptosi (F := Ideal) (φ := .f32) 8
    (min (Scalar.ofBits (F := Ideal) .f32 0x42FE0000#32) (max (Scalar.ofBits (F := Ideal) .f32 0xC2FE0000#32)
      (Ideal.liftRound Ideal.roundHalfEven (Ideal.div (m j) (mScale m (ix3 (j 0) (j 1) (blk (j 2))))))))

/-- Left rotation: `Qᵀ x`, each row scaled by the scale of its eigenvector. -/
def rotL (ql : IVec S6x2048x2048 8) (s : FVec Ideal S6x2048 .f32) (x : FVec Ideal S6x2048x2816 .bf16) :
    FVec Ideal S6x2048x2816 .bf16 := fun j =>
  (∑ k : Fin 2048, (FloatOps.sitofp (F := Ideal) .bf16 (ql (ix3 (j 0) k (j 1)))) * x (ix3 (j 0) k (j 2))) * s (ix2 (j 0) (j 1))

/-- Right rotation: `t Q`, each column scaled by the scale of its eigenvector. -/
def rotR (t : FVec Ideal S6x2048x2816 .bf16) (qr : IVec S6x2816x2816 8) (s : FVec Ideal S6x2816 .f32) :
    FVec Ideal S6x2048x2816 .f32 := fun j =>
  (∑ k : Fin 2816, t (ix3 (j 0) (j 1) k) * (FloatOps.sitofp (F := Ideal) .bf16 (qr (ix3 (j 0) k (j 2))))) * s (ix2 (j 0) (j 2))

/-- The new second moment: `0.95 · s² + 0.05 · r²`, with `s` the decoded old root and `r` the rotated gradient. -/
def vNew (r : FVec Ideal S6x2048x2816 .f32) (vc : IVec S6x2048x2816 8) (vs : FVec Ideal S6x2048x22 .f32) :
    FVec Ideal S6x2048x2816 .f32 := fun j =>
  Scalar.ofBits (F := Ideal) .f32 0x3F733333#32
      * ((FloatOps.uitofp (F := Ideal) .f32 (vc j)) * vs (ix3 (j 0) (j 1) (blk (j 2))))
      * ((FloatOps.uitofp (F := Ideal) .f32 (vc j)) * vs (ix3 (j 0) (j 1) (blk (j 2))))
    + Scalar.ofBits (F := Ideal) .f32 0x3D4CCCCD#32 * r j * r j

/-- The scale of a block of roots of second moments: the largest over 255. -/
def vScale (v : FVec Ideal S6x2048x2816 .f32) : FVec Ideal S6x2048x22 .f32 := fun i =>
  Ideal.div (Finset.fold max (Scalar.ofBits (F := Ideal) .f32 0xFF800000#32)
    (fun k : Fin 128 => Ideal.sqrt (v (ix3 (i 0) (i 1) (ent (i 2) k)))) Finset.univ) (Scalar.ofBits (F := Ideal) .f32 0x437F0000#32)

/-- The unsigned code of a second moment: its root over the scale, rounded to the nearest integer, kept in `[0, 255]`. -/
def vCode (v : FVec Ideal S6x2048x2816 .f32) : IVec S6x2048x2816 8 := fun j =>
  FloatOps.fptoui (F := Ideal) (φ := .f32) 8
    (min (Scalar.ofBits (F := Ideal) .f32 0x437F0000#32) (max 0
      (Ideal.liftRound Ideal.roundHalfEven (Ideal.div (Ideal.sqrt (v j)) (vScale v (ix3 (j 0) (j 1) (blk (j 2))))))))

/-- The step in the rotated basis: `(r / c1) / (√(v / c2) + eps)`. -/
def upd (r v : FVec Ideal S6x2048x2816 .f32) (c1 c2 eps : FVec Ideal S6 .f32) : FVec Ideal S6x2048x2816 .bf16 := fun j =>
  Ideal.div (Ideal.div (r j) (c1 (ix1 (j 0)))) (Ideal.sqrt (Ideal.div (v j) (c2 (ix1 (j 0)))) + eps (ix1 (j 0)))

/-- Rotation back from the left: `(Q · diag s) n`. -/
def backL (ql : IVec S6x2048x2048 8) (s : FVec Ideal S6x2048 .f32) (n : FVec Ideal S6x2048x2816 .bf16) :
    FVec Ideal S6x2048x2816 .bf16 := fun j =>
  ∑ k : Fin 2048, (FloatOps.sitofp (F := Ideal) .bf16 (ql (ix3 (j 0) (j 1) k))) * s (ix2 (j 0) k) * n (ix3 (j 0) k (j 2))

/-- Rotation back from the right: `p (Q · diag s)ᵀ`. -/
def backR (p : FVec Ideal S6x2048x2816 .bf16) (qr : IVec S6x2816x2816 8) (s : FVec Ideal S6x2816 .f32) :
    FVec Ideal S6x2048x2816 .f32 := fun j =>
  ∑ k : Fin 2816, p (ix3 (j 0) (j 1) k) * ((FloatOps.sitofp (F := Ideal) .bf16 (qr (ix3 (j 0) (j 2) k))) * s (ix2 (j 0) k))

/-- The new weights: `w - lr (u + wd w)`. -/
def wNew (w u : FVec Ideal S6x2048x2816 .f32) (lr wd : FVec Ideal S6 .f32) : FVec Ideal S6x2048x2816 .f32 := fun j =>
  w j - lr (ix1 (j 0)) * (u j + wd (ix1 (j 0)) * w j)

/-- The new left statistics: `0.95 l + 0.05 g gᵀ`. -/
def lNew (g : FVec Ideal S6x2048x2816 .bf16) (l : FVec Ideal S6x2048x2048 .f32) : FVec Ideal S6x2048x2048 .f32 := fun j =>
  Scalar.ofBits (F := Ideal) .f32 0x3F733333#32 * l j
    + Scalar.ofBits (F := Ideal) .f32 0x3D4CCCCD#32 * ∑ k : Fin 2816, g (ix3 (j 0) (j 1) k) * g (ix3 (j 0) (j 2) k)

/-- The new right statistics: `0.95 r + 0.05 gᵀ g`. -/
def rNew (g : FVec Ideal S6x2048x2816 .bf16) (r : FVec Ideal S6x2816x2816 .f32) : FVec Ideal S6x2816x2816 .f32 := fun j =>
  Scalar.ofBits (F := Ideal) .f32 0x3F733333#32 * r j
    + Scalar.ofBits (F := Ideal) .f32 0x3D4CCCCD#32 * ∑ k : Fin 2048, g (ix3 (j 0) k (j 1)) * g (ix3 (j 0) k (j 2))

/-- The left product for the next basis: `L Q`, columns scaled. -/
def prodL (l : FVec Ideal S6x2048x2048 .f32) (ql : IVec S6x2048x2048 8) (s : FVec Ideal S6x2048 .f32) :
    FVec Ideal S6x2048x2048 .bf16 := fun j =>
  (∑ k : Fin 2048, l (ix3 (j 0) (j 1) k) * (FloatOps.sitofp (F := Ideal) .bf16 (ql (ix3 (j 0) k (j 2))))) * s (ix2 (j 0) (j 2))

/-- The right product for the next basis: `R Q`, columns scaled. -/
def prodR (r : FVec Ideal S6x2816x2816 .f32) (qr : IVec S6x2816x2816 8) (s : FVec Ideal S6x2816 .f32) :
    FVec Ideal S6x2816x2816 .bf16 := fun j =>
  (∑ k : Fin 2816, r (ix3 (j 0) (j 1) k) * (FloatOps.sitofp (F := Ideal) .bf16 (qr (ix3 (j 0) k (j 2))))) * s (ix2 (j 0) (j 2))

end Cert.Spec
-- ==== Proof.All.lean ====
module
public import proofs.«01_k».proof.Proof.Spec
@[expose] public section

/-!
The whole update, put together from its parts: one definition per array the program returns or keeps between its parts.
-/

noncomputable section

namespace Cert.Spec
open Idealize.ShloMosaic Idealize.ShloMosaic.TcCoe

/-- The arrays the program is given, in its order. -/
structure Args where
  /-- The weights. -/
  w : FVec Ideal S6x2048x2816 .f32
  /-- The gradient. -/
  g : FVec Ideal S6x2048x2816 .bf16
  /-- The momentum's codes. -/
  mc : IVec S6x2048x2816 8
  /-- The momentum's scales. -/
  ms : FVec Ideal S6x2048x22 .f32
  /-- The second moment's codes. -/
  vc : IVec S6x2048x2816 8
  /-- The second moment's scales. -/
  vs : FVec Ideal S6x2048x22 .f32
  /-- The left statistics. -/
  l : FVec Ideal S6x2048x2048 .f32
  /-- The right statistics. -/
  r : FVec Ideal S6x2816x2816 .f32
  /-- The left basis' codes. -/
  ql : IVec S6x2048x2048 8
  /-- The left basis' scales. -/
  sl : FVec Ideal S6x2048 .f32
  /-- The right basis' codes. -/
  qr : IVec S6x2816x2816 8
  /-- The right basis' scales. -/
  sr : FVec Ideal S6x2816 .f32
  /-- The momentum's bias correction. -/
  c1 : FVec Ideal S6 .f32
  /-- The second moment's bias correction. -/
  c2 : FVec Ideal S6 .f32
  /-- What is added to the root. -/
  eps : FVec Ideal S6 .f32
  /-- The step's length. -/
  lr : FVec Ideal S6 .f32
  /-- The weight decay. -/
  wd : FVec Ideal S6 .f32

namespace Args
variable (a : Args)

/-- The new momentum. -/
def m : FVec Ideal S6x2048x2816 .f32 := mom a.g a.mc a.ms
/-- The gradient in the two bases. -/
def gr : FVec Ideal S6x2048x2816 .f32 := rotR (rotL a.ql a.sl a.g) a.qr a.sr
/-- The momentum in the two bases. -/
def mr : FVec Ideal S6x2048x2816 .f32 := rotR (rotL a.ql a.sl a.m) a.qr a.sr
/-- The new second moment. -/
def v : FVec Ideal S6x2048x2816 .f32 := vNew a.gr a.vc a.vs
/-- The step in the two bases, back in the rows' own basis. -/
def p : FVec Ideal S6x2048x2816 .bf16 := backL a.ql a.sl (upd a.mr a.v a.c1 a.c2 a.eps)
/-- The step. -/
def u : FVec Ideal S6x2048x2816 .f32 := backR a.p a.qr a.sr
/-- The new weights. -/
def w' : FVec Ideal S6x2048x2816 .f32 := wNew a.w a.u a.lr a.wd
/-- The new left statistics. -/
def l' : FVec Ideal S6x2048x2048 .f32 := lNew a.g a.l
/-- The new right statistics. -/
def r' : FVec Ideal S6x2816x2816 .f32 := rNew a.g a.r
/-- The left product. -/
def pl : FVec Ideal S6x2048x2048 .bf16 := prodL a.l' a.ql a.sl
/-- The right product. -/
def pr : FVec Ideal S6x2816x2816 .bf16 := prodR a.r' a.qr a.sr
/-- The momentum's new codes. -/
def mc' : IVec S6x2048x2816 8 := mCode a.m
/-- The momentum's new scales. -/
def ms' : FVec Ideal S6x2048x22 .f32 := mScale a.m
/-- The second moment's new codes. -/
def vc' : IVec S6x2048x2816 8 := vCode a.v
/-- The second moment's new scales. -/
def vs' : FVec Ideal S6x2048x22 .f32 := vScale a.v

end Args
end Cert.Spec
-- ==== Proof.Tiles0.lean ====
module
public import proofs.«01_k».proof.Proof.Gen.KernelIdeal.Frame.Region0
public import proofs.«01_k».proof.Proof.Spec
public import Idealize.ShloMosaic.Lib.Pipeline.ValueKit
public import Idealize.ShloMosaic.Lib.Pointwise
@[expose] public section
set_option maxRecDepth 16384

/-!
The first pass: what one tile of the momentum, of its codes and of its scales holds.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

/-- One tile of the momentum. -/
theorem tile0 (v0 : Vec Ideal S1x256x128 .i8) (v3 : Vec Ideal S1x256x1 .f32) (v9 : Vec Ideal S1x256x128 .bf16) (z : S256x128.Idx) :
    k0_pay2 v0 v3 v9 z = Ideal.ofBits .f32 0x3F666666#32 * (FloatOps.sitofp (F := Ideal) .f32 (v0 (ix3 0 (z 0) (z 1))) * v3 (ix3 0 (z 0) 0))
      + Ideal.ofBits .f32 0x3DCCCCCD#32 * v9 (ix3 0 (z 0) (z 1)) := by
  pointwise [k0_pay2]

/-- The tile as it is stored. -/
theorem tile0_m (v0 : Vec Ideal S1x256x128 .i8) (v3 : Vec Ideal S1x256x1 .f32) (v9 : Vec Ideal S1x256x128 .bf16) (x : S1x256x128.Idx) :
    k0_pay3 v0 v3 v9 x = k0_pay2 (F := Ideal) v0 v3 v9 (ix2 (x 1) (x 2)) := by
  pointwise [k0_pay3]

/-- The scale of one row of a tile, when the row is a block of `m`. -/
theorem tile0_s (v0 : Vec Ideal S1x256x128 .i8) (v3 : Vec Ideal S1x256x1 .f32) (v9 : Vec Ideal S1x256x128 .bf16) (x : S1x256x1.Idx)
    (m : FVec Ideal Spec.S6x2048x2816 .f32) (i : Spec.S6x2048x22.Idx)
    (h : ∀ k : Fin 128, k0_pay2 (F := Ideal) v0 v3 v9 (ix2 (x 1) k) = m (ix3 (i 0) (i 1) (Spec.ent (i 2) k))) :
    k0_pay7 (F := Ideal) (k0_pay4 v0 v3 v9) x = Spec.mScale m i := by
  pointwise [k0_pay7, k0_pay4, Spec.mScale, Spec.amax]
  simp only [h]

/-- The code of one entry of a tile, when its row is a block of `m`. -/
theorem tile0_c (v0 : Vec Ideal S1x256x128 .i8) (v3 : Vec Ideal S1x256x1 .f32) (v9 : Vec Ideal S1x256x128 .bf16) (x : S1x256x128.Idx)
    (m : FVec Ideal Spec.S6x2048x2816 .f32) (j : Spec.S6x2048x2816.Idx)
    (h : ∀ k : Fin 128, k0_pay2 (F := Ideal) v0 v3 v9 (ix2 (x 1) k) = m (ix3 (j 0) (j 1) (Spec.ent (Spec.blk (j 2)) k)))
    (hx : k0_pay2 (F := Ideal) v0 v3 v9 (ix2 (x 1) (x 2)) = m j) :
    k0_pay6 (k0_pay5 (F := Ideal) v0 v3 v9) x = Spec.mCode m j := by
  pointwise [k0_pay6, k0_pay5, k0_pay4, Spec.mCode, Spec.mScale, Spec.amax]
  simp only [h, hx]

variable (V : (c : Dev nD) → (b : Ref sig .tc) → Buf (Elt Ideal) ((c : Thread nD τ).loc b))

/-- Which block each window takes at a grid point. -/
theorem idx0 : ∀ t : Fin cfg0.N, win0_0.index t = ![t.val / 8, t.val % 8, 0] ∧ win0_1.index t = ![t.val / 8, t.val % 8, 0]
      ∧ win0_2.index t = ![t.val / 8, t.val % 8, 0] ∧ win0_3.index t = ![t.val / 8, t.val % 8, 0]
      ∧ win0_4.index t = ![t.val / 8, t.val % 8, 0] ∧ win0_5.index t = ![t.val / 8, t.val % 8, 0] :=
  (by decide +kernel : ∀ t : Fin grid0.N, _)

/-- The new momentum, of the arrays as the pass finds them. -/
def mom0 (c : Dev nD) : FVec Ideal Spec.S6x2048x2816 .f32 := Spec.mom (V c main_arg1) (V c main_arg2) (V c main_arg3)

/-- The tile of block `b` of the rows of a grid point holds the momentum that lies there. -/
theorem mom0_at (c : Dev nD) (t : Fin cfg0.N) (o b : Nat) (ho : o = b * 128)
    (inb : ∀ a, (![0, 0, o] : Fin 3 → Nat) a + S1x256x128.size a ≤ S1x256x2816.size a)
    (inb' : ∀ a, (![0, 0, b] : Fin 3 → Nat) a + S1x256x1.size a ≤ S1x256x22.size a)
    (z : S256x128.Idx) (j : Spec.S6x2048x2816.Idx)
    (h0 : (j 0 : ℕ) = t.val / 8) (h1 : (j 1 : ℕ) = t.val % 8 * 256 + z 0) (h2 : (j 2 : ℕ) = b * 128 + z 1) :
    k0_pay2 (F := Ideal) (View.ld (iblk0 V c 0 t) (Rect.unit (s := S1x256x2816) ![0, 0, o] S1x256x128.size inb))
      (View.ld (iblk0 V c 1 t) (Rect.unit (s := S1x256x22) ![0, 0, b] S1x256x1.size inb'))
      (View.ld (iblk0 V c 2 t) (Rect.unit (s := S1x256x2816) ![0, 0, o] S1x256x128.size inb)) z = mom0 V c j := by
  rw [tile0]
  unfold mom0
  blk_point [iblk0, idx0 t, Spec.mom]

/-- Where an entry of a block of rows lies in its array. -/
theorem emb0_3 (t : Fin cfg0.N) (y : S1x256x2816.Idx) : (((win0_3.blk t).view.emb y) 0 : ℕ) = t.val / 8
    ∧ (((win0_3.blk t).view.emb y) 1 : ℕ) = t.val % 8 * 256 + y 1 ∧ (((win0_3.blk t).view.emb y) 2 : ℕ) = y 2 := by
  have hy : (y 0 : ℕ) < 1 := (y 0).2
  refine ⟨?_, ?_, ?_⟩ <;> blk_simp [idx0 t] <;> omega

theorem emb0_4 (t : Fin cfg0.N) (y : S1x256x22.Idx) : (((win0_4.blk t).view.emb y) 0 : ℕ) = t.val / 8
    ∧ (((win0_4.blk t).view.emb y) 1 : ℕ) = t.val % 8 * 256 + y 1 ∧ (((win0_4.blk t).view.emb y) 2 : ℕ) = y 2 := by
  have hy : (y 0 : ℕ) < 1 := (y 0).2
  refine ⟨?_, ?_, ?_⟩ <;> blk_simp [idx0 t] <;> omega

theorem emb0_5 (t : Fin cfg0.N) (y : S1x256x2816.Idx) : (((win0_5.blk t).view.emb y) 0 : ℕ) = t.val / 8
    ∧ (((win0_5.blk t).view.emb y) 1 : ℕ) = t.val % 8 * 256 + y 1 ∧ (((win0_5.blk t).view.emb y) 2 : ℕ) = y 2 := by
  have hy : (y 0 : ℕ) < 1 := (y 0).2
  refine ⟨?_, ?_, ?_⟩ <;> blk_simp [idx0 t] <;> omega

/-- The stored tile of the momentum. -/
theorem piece0_5 (c : Dev nD) (t : Fin cfg0.N) (y : S1x256x2816.Idx) (x : S1x256x128.Idx) (o b : Nat) (ho : o = b * 128)
    (inb : ∀ a, (![0, 0, o] : Fin 3 → Nat) a + S1x256x128.size a ≤ S1x256x2816.size a)
    (inb' : ∀ a, (![0, 0, b] : Fin 3 → Nat) a + S1x256x1.size a ≤ S1x256x22.size a)
    (h0 : (y 0 : ℕ) = x 0) (h1 : (y 1 : ℕ) = x 1) (h2 : (y 2 : ℕ) = o + x 2) :
    k0_pay3 (F := Ideal) (View.ld (iblk0 V c 0 t) (Rect.unit (s := S1x256x2816) ![0, 0, o] S1x256x128.size inb))
      (View.ld (iblk0 V c 1 t) (Rect.unit (s := S1x256x22) ![0, 0, b] S1x256x1.size inb'))
      (View.ld (iblk0 V c 2 t) (Rect.unit (s := S1x256x2816) ![0, 0, o] S1x256x128.size inb)) x
      = mom0 V c ((win0_5.blk t).view.emb y) := by
  obtain ⟨e0, e1, e2⟩ := emb0_5 t y
  rw [tile0_m]
  exact mom0_at V c t o b ho inb inb' _ _ e0 (by rw [e1, h1]; rfl) (by rw [e2, h2, ho]; rfl)

/-- The stored scales of a tile. -/
theorem piece0_4 (c : Dev nD) (t : Fin cfg0.N) (y : S1x256x22.Idx) (x : S1x256x1.Idx) (o b : Nat) (ho : o = b * 128)
    (inb : ∀ a, (![0, 0, o] : Fin 3 → Nat) a + S1x256x128.size a ≤ S1x256x2816.size a)
    (inb' : ∀ a, (![0, 0, b] : Fin 3 → Nat) a + S1x256x1.size a ≤ S1x256x22.size a)
    (h0 : (y 0 : ℕ) = x 0) (h1 : (y 1 : ℕ) = x 1) (h2 : (y 2 : ℕ) = b) :
    k0_pay7 (F := Ideal) (k0_pay4 (View.ld (iblk0 V c 0 t) (Rect.unit (s := S1x256x2816) ![0, 0, o] S1x256x128.size inb))
      (View.ld (iblk0 V c 1 t) (Rect.unit (s := S1x256x22) ![0, 0, b] S1x256x1.size inb'))
      (View.ld (iblk0 V c 2 t) (Rect.unit (s := S1x256x2816) ![0, 0, o] S1x256x128.size inb))) x
      = Spec.mScale (mom0 V c) ((win0_4.blk t).view.emb y) := by
  obtain ⟨e0, e1, e2⟩ := emb0_4 t y
  refine tile0_s _ _ _ _ _ _ fun k => ?_
  exact mom0_at V c t o b ho inb inb' _ _ e0 (by show ((win0_4.blk t).view.emb y 1 : ℕ) = _; rw [e1, h1]; rfl)
    (by show ((win0_4.blk t).view.emb y 2 : ℕ) * 128 + (k : ℕ) = _; rw [e2, h2]; rfl)

/-- The stored codes of a tile. -/
theorem piece0_3 (c : Dev nD) (t : Fin cfg0.N) (y : S1x256x2816.Idx) (x : S1x256x128.Idx) (o b : Nat) (ho : o = b * 128)
    (inb : ∀ a, (![0, 0, o] : Fin 3 → Nat) a + S1x256x128.size a ≤ S1x256x2816.size a)
    (inb' : ∀ a, (![0, 0, b] : Fin 3 → Nat) a + S1x256x1.size a ≤ S1x256x22.size a)
    (h0 : (y 0 : ℕ) = x 0) (h1 : (y 1 : ℕ) = x 1) (h2 : (y 2 : ℕ) = o + x 2) :
    k0_pay6 (k0_pay5 (F := Ideal) (View.ld (iblk0 V c 0 t) (Rect.unit (s := S1x256x2816) ![0, 0, o] S1x256x128.size inb))
      (View.ld (iblk0 V c 1 t) (Rect.unit (s := S1x256x22) ![0, 0, b] S1x256x1.size inb'))
      (View.ld (iblk0 V c 2 t) (Rect.unit (s := S1x256x2816) ![0, 0, o] S1x256x128.size inb))) x
      = Spec.mCode (mom0 V c) ((win0_3.blk t).view.emb y) := by
  obtain ⟨e0, e1, e2⟩ := emb0_3 t y
  have hx : (x 2 : ℕ) < 128 := (x 2).2
  refine tile0_c _ _ _ _ _ _ (fun k => ?_) ?_
  · exact mom0_at V c t o b ho inb inb' _ _ e0 (by show ((win0_3.blk t).view.emb y 1 : ℕ) = _; rw [e1, h1]; rfl)
      (by
        show ((win0_3.blk t).view.emb y 2 : ℕ) / 128 * 128 + (k : ℕ) = b * 128 + (k : ℕ)
        rw [e2, h2, ho]; omega)
  · exact mom0_at V c t o b ho inb inb' _ _ e0 (by rw [e1, h1]; rfl) (by rw [e2, h2, ho]; rfl)

end Cert.KernelIdeal.Value
-- ==== Proof.Reg0.lean ====
module
public import proofs.«01_k».proof.Proof.Gen.KernelIdeal.Frame.Region0
public import proofs.«01_k».proof.Proof.Tiles0
public import Idealize.ShloMosaic.Lib.Pipeline.ValueKit
public import Idealize.ShloMosaic.Lib.Pointwise
@[expose] public section
set_option maxRecDepth 16384

/-!
The first pass: momentum, its codes and the scales of its blocks, as the array of each holds them.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

set_option maxHeartbeats 1000000 in
/-- What one grid point leaves in its block of the momentum. -/
theorem point0_5 (c : Dev nD) (t : Fin cfg0.N) (y : S1x256x2816.Idx) :
    out0_5 (iblk0 V c 0 t) (iblk0 V c 1 t) (iblk0 V c 2 t) y = mom0 V c ((win0_5.blk t).view.emb y) := by
  canon_tiles x h
  all_goals
    refine Eq.trans (b := k0_pay3 (F := Ideal) _ _ _ x) rfl ?_
    exact piece0_5 V c t y x _ _ (by decide) _ _ h0 h1 (by omega)

set_option maxHeartbeats 1000000 in
/-- What one grid point leaves in its block of the scales. -/
theorem point0_4 (c : Dev nD) (t : Fin cfg0.N) (y : S1x256x22.Idx) :
    out0_4 (iblk0 V c 0 t) (iblk0 V c 1 t) (iblk0 V c 2 t) y = Spec.mScale (mom0 V c) ((win0_4.blk t).view.emb y) := by
  canon_tiles x h
  case piece3 =>
    refine Eq.trans (b := k0_pay7 (F := Ideal) (k0_pay4 (View.ld (iblk0 V c 0 t) r0_36) (View.ld (iblk0 V c 1 t) r0_37)
      (View.ld (iblk0 V c 2 t) r0_36)) x) rfl ?_
    exact piece0_4 V c t y x _ _ (by decide) _ _ h0 h1 (by omega)
  all_goals
    refine Eq.trans (b := k0_pay7 (F := Ideal) (k0_pay4 _ _ _) x) rfl ?_
    exact piece0_4 V c t y x _ _ (by decide) _ _ h0 h1 (by omega)

set_option maxHeartbeats 1000000 in
/-- What one grid point leaves in its block of the codes. -/
theorem point0_3 (c : Dev nD) (t : Fin cfg0.N) (y : S1x256x2816.Idx) :
    out0_3 (iblk0 V c 0 t) (iblk0 V c 1 t) (iblk0 V c 2 t) y = Spec.mCode (mom0 V c) ((win0_3.blk t).view.emb y) := by
  canon_tiles x h
  all_goals
    refine Eq.trans (b := k0_pay6 (k0_pay5 (F := Ideal) _ _ _) x) rfl ?_
    exact piece0_3 V c t y x _ _ (by decide) _ _ h0 h1 (by omega)

/-- The array of the momentum. -/
theorem arr0_5 (c : Dev nD) : (dat0 V c).arrAt 5 cfg0.N = mom0 V c := by
  refine (dat0 V c).arrAt_eq_of_covers 5 _ (by decide +kernel) fun t _ y => ?_
  blk_simp
  rw [after0_5]
  exact point0_5 V c t y

/-- The array of the scales. -/
theorem arr0_4 (c : Dev nD) : (dat0 V c).arrAt 4 cfg0.N = Spec.mScale (mom0 V c) := by
  refine (dat0 V c).arrAt_eq_of_covers 4 _ (by decide +kernel) fun t _ y => ?_
  blk_simp
  rw [after0_4]
  exact point0_4 V c t y

/-- The array of the codes. -/
theorem arr0_3 (c : Dev nD) : (dat0 V c).arrAt 3 cfg0.N = Spec.mCode (mom0 V c) := by
  refine (dat0 V c).arrAt_eq_of_covers 3 _ (by decide +kernel) fun t _ y => ?_
  blk_simp
  rw [after0_3]
  exact point0_3 V c t y

end Cert.KernelIdeal.Value
-- ==== Proof.Reg1.lean ====
module
public import proofs.«01_k».proof.Proof.Gen.KernelIdeal.Frame.Region1
public import proofs.«01_k».proof.Proof.Spec
public import Idealize.ShloMosaic.Lib.Pipeline.ValueKit
public import Idealize.ShloMosaic.Lib.Pointwise
@[expose] public section
set_option maxRecDepth 16384

/-!
Region 1 of the kernel (rotation from the left): the two arrays it writes are `Spec.rotL` of the gradient and of the momentum.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

/-- One tile: the transposed basis columns times the operand, rows scaled. -/
theorem tile1 (v0 : Vec Ideal S1x2048x512 .i8) (v3 : Vec Ideal S1x512x1 .f32) (v5 : Vec Ideal S1x2048x1408 .bf16)
    (x : S1x512x1408.Idx) :
    k1_pay3 v0 v3 v5 x = (∑ k : Fin 2048, FloatOps.sitofp (F := Ideal) .bf16 (v0 (ix3 0 k (x 1))) * v5 (ix3 0 k (x 2))) * v3 (ix3 0 (x 1) 0) := by
  pointwise [k1_pay3, k1_pay2, k1_pay1]

variable (V : (c : Dev nD) → (b : Ref sig .tc) → Buf (Elt Ideal) ((c : Thread nD τ).loc b))

/-- Which block each window takes at a grid point. -/
theorem idx1 : ∀ t : Fin cfg1.N, win1_0.index t = ![t.val / 8, 0, t.val % 4] ∧ win1_1.index t = ![t.val / 8, t.val % 4, 0]
      ∧ win1_2.index t = ![t.val / 8, 0, t.val / 4 % 2] ∧ win1_3.index t = ![t.val / 8, 0, t.val / 4 % 2]
      ∧ win1_4.index t = ![t.val / 8, t.val % 4, t.val / 4 % 2] ∧ win1_5.index t = ![t.val / 8, t.val % 4, t.val / 4 % 2] :=
  (by decide +kernel : ∀ t : Fin grid1.N, _)

/-- A block of the rotated gradient. -/
theorem piece1_4 (c : Dev nD) (t : Fin cfg1.N) (y : S1x512x1408.Idx) :
    k1_pay3 (F := Ideal) (iblk1 V c 0 t) (iblk1 V c 1 t) (iblk1 V c 2 t) y
      = Spec.rotL (V c main_arg8) (fun i => V c main_v1 (ix3 (i 0) (i 1) 0)) (V c main_arg1) ((win1_4.blk t).view.emb y) := by
  rw [tile1]
  blk_point [iblk1, idx1 t, Spec.rotL]

/-- A block of the rotated momentum. -/
theorem piece1_5 (c : Dev nD) (t : Fin cfg1.N) (y : S1x512x1408.Idx) :
    k1_pay3 (F := Ideal) (iblk1 V c 0 t) (iblk1 V c 1 t) (iblk1 V c 3 t) y
      = Spec.rotL (V c main_arg8) (fun i => V c main_v1 (ix3 (i 0) (i 1) 0)) (V c main_v0_2) ((win1_5.blk t).view.emb y) := by
  rw [tile1]
  blk_point [iblk1, idx1 t, Spec.rotL]

/-- What one grid point leaves in its block of the rotated gradient. -/
theorem point1_4 (c : Dev nD) (t : Fin cfg1.N) (y : S1x512x1408.Idx) :
    out1_4 (iblk1 V c 0 t) (iblk1 V c 1 t) (iblk1 V c 2 t) (iblk1 V c 3 t) y
      = Spec.rotL (V c main_arg8) (fun i => V c main_v1 (ix3 (i 0) (i 1) 0)) (V c main_arg1) ((win1_4.blk t).view.emb y) := by
  have h : out1_4 (iblk1 V c 0 t) (iblk1 V c 1 t) (iblk1 V c 2 t) (iblk1 V c 3 t)
      = k1_pay3 (F := Ideal) (iblk1 V c 0 t) (iblk1 V c 1 t) (iblk1 V c 2 t) := by frame_out
  rw [h]
  exact piece1_4 V c t y

/-- What one grid point leaves in its block of the rotated momentum. -/
theorem point1_5 (c : Dev nD) (t : Fin cfg1.N) (y : S1x512x1408.Idx) :
    out1_5 (iblk1 V c 0 t) (iblk1 V c 1 t) (iblk1 V c 2 t) (iblk1 V c 3 t) y
      = Spec.rotL (V c main_arg8) (fun i => V c main_v1 (ix3 (i 0) (i 1) 0)) (V c main_v0_2) ((win1_5.blk t).view.emb y) := by
  have h : out1_5 (iblk1 V c 0 t) (iblk1 V c 1 t) (iblk1 V c 2 t) (iblk1 V c 3 t)
      = k1_pay4 (F := Ideal) (iblk1 V c 0 t) (iblk1 V c 1 t) (iblk1 V c 3 t) := by frame_out
  rw [h]
  exact (congrFun (show k1_pay4 (F := Ideal) (iblk1 V c 0 t) (iblk1 V c 1 t) (iblk1 V c 3 t)
    = k1_pay3 (F := Ideal) (iblk1 V c 0 t) (iblk1 V c 1 t) (iblk1 V c 3 t) from rfl) y).trans (piece1_5 V c t y)

/-- The array of left-rotated gradients. -/
theorem arr1_4 (c : Dev nD) : (dat1 V c).arrAt 4 cfg1.N
    = Spec.rotL (V c main_arg8) (fun i => V c main_v1 (ix3 (i 0) (i 1) 0)) (V c main_arg1) := by
  refine (dat1 V c).arrAt_eq_of_covers 4 _ (by decide +kernel) fun t _ y => ?_
  blk_simp
  rw [after1_4]
  exact point1_4 V c t y

/-- The array of left-rotated momenta. -/
theorem arr1_5 (c : Dev nD) : (dat1 V c).arrAt 5 cfg1.N
    = Spec.rotL (V c main_arg8) (fun i => V c main_v1 (ix3 (i 0) (i 1) 0)) (V c main_v0_2) := by
  refine (dat1 V c).arrAt_eq_of_covers 5 _ (by decide +kernel) fun t _ y => ?_
  blk_simp
  rw [after1_5]
  exact point1_5 V c t y

end Cert.KernelIdeal.Value
-- ==== Proof.Quant.lean ====
module
public import Idealize.ShloMosaic.Lib.Pointwise
@[expose] public section

/-!
Two facts about integers in and out of 8 bits: an unsigned byte widened to 32 bits and read signed is the byte read unsigned;
and a value in `[0, 255]` converted to a signed 32-bit integer and cut to 8 bits is the value converted to an unsigned byte.
-/

noncomputable section

namespace Cert.Spec
open Idealize.ShloMosaic Idealize.ShloMosaic.TcCoe

/-- A byte widened with zeros and read as a signed number is the byte read as an unsigned number. -/
theorem sitofp_widen (φ : FTy) (b : BitVec 8) :
    FloatOps.sitofp (F := Ideal) φ (b.setWidth 32) = FloatOps.uitofp (F := Ideal) φ b := by
  show ((((b.setWidth 32).toInt : ℤ) : ℝ) : EReal) = (((b.toNat : ℕ) : ℝ) : EReal)
  have h : (b.setWidth 32).toInt = (b.toNat : ℤ) := by
    have hb := b.isLt
    rw [BitVec.toInt_eq_toNat_cond, BitVec.toNat_setWidth]
    rw [Nat.mod_eq_of_lt (by omega)]
    split <;> omega
  rw [h]; norm_cast

/-- The number 255 as a 32-bit float. -/
theorem c255 : Ideal.ofBits .f32 0x437F0000#32 = ((255 : ℝ) : EReal) := by
  simp [Ideal.ofBits, Ideal.ieee]
  rw [← EReal.coe_mul]
  norm_num

/-- Through a signed 32-bit integer or straight to an unsigned byte: the same, for a value kept in `[0, 255]`. -/
theorem byte_of_int (z : EReal) :
    BitVec.setWidth 8 (FloatOps.fptosi (F := Ideal) (φ := .f32) 32 (min (Ideal.ofBits .f32 0x437F0000#32) (max 0 z)))
      = FloatOps.fptoui (F := Ideal) (φ := .f32) 8 (min (Ideal.ofBits .f32 0x437F0000#32) (max 0 z)) := by
  rw [c255]
  show BitVec.setWidth 8 (Ideal.fptosi 32 _) = Ideal.fptoui 8 _
  obtain ⟨r, hr, h0, h1⟩ : ∃ r : ℝ, min ((255 : ℝ) : EReal) (max 0 z) = (r : EReal) ∧ 0 ≤ r ∧ r ≤ 255 := by
    induction z using EReal.rec with
    | bot => exact ⟨0, by simp, le_refl _, by norm_num⟩
    | top => exact ⟨255, by simp, by norm_num, le_refl _⟩
    | coe x =>
      refine ⟨min 255 (max 0 x), ?_, le_min (by norm_num) (le_max_left _ _), min_le_left _ _⟩
      rw [← EReal.coe_zero, ← EReal.coe_strictMono.monotone.map_max, ← EReal.coe_strictMono.monotone.map_min]
  rw [hr]
  have f0 : 0 ≤ ⌊r⌋ := Int.floor_nonneg.mpr h0
  have f1 : ⌊r⌋ ≤ 255 := by
    have : (⌊r⌋ : ℝ) ≤ 255 := (Int.floor_le r).trans h1
    exact_mod_cast this
  have e1 : Ideal.toIntClamped (-(2 ^ (32 - 1) : Nat)) ((2 ^ (32 - 1) : Nat) - 1) (r : EReal) = ⌊r⌋ := by
    show max _ (min _ (if 0 ≤ r then ⌊r⌋ else ⌈r⌉)) = _
    rw [if_pos h0]; push_cast; omega
  have e2 : Ideal.toIntClamped 0 ((2 ^ 8 : Nat) - 1) (r : EReal) = ⌊r⌋ := by
    show max _ (min _ (if 0 ≤ r then ⌊r⌋ else ⌈r⌉)) = _
    rw [if_pos h0]; push_cast; omega
  unfold Ideal.fptosi Ideal.fptoui
  rw [e1, e2]
  apply BitVec.eq_of_toNat_eq
  rw [BitVec.toNat_setWidth, BitVec.toNat_ofInt, BitVec.toNat_ofInt]
  omega

end Cert.Spec
-- ==== Proof.Tiles2.lean ====
module
public import proofs.«01_k».proof.Proof.Gen.KernelIdeal.Frame.Region2
public import proofs.«01_k».proof.Proof.Spec
public import proofs.«01_k».proof.Proof.Quant
public import Idealize.ShloMosaic.Lib.Pipeline.ValueKit
public import Idealize.ShloMosaic.Lib.Pointwise
@[expose] public section
set_option maxRecDepth 16384

/-!
The second pass: what one tile of the step, of the second moment's codes and of its scales holds.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

/-- The scale of one row of a tile of the second moment, when the row is a block of `v`. -/
theorem tile2_s (T : FVec Ideal S256x128 .f32) (x : S1x256x1.Idx) (v : FVec Ideal Spec.S6x2048x2816 .f32) (i : Spec.S6x2048x22.Idx)
    (h : ∀ k : Fin 128, T (ix2 (x 1) k) = v (ix3 (i 0) (i 1) (Spec.ent (i 2) k))) : k2_pay13 T x = Spec.vScale v i := by
  pointwise [k2_pay13, k2_pay11, k2_pay10, Spec.vScale]
  simp only [h]

/-- The code of one entry of a tile of the second moment, when its row is a block of `v`. -/
theorem tile2_c (T : FVec Ideal S256x128 .f32) (x : S1x256x128.Idx) (v : FVec Ideal Spec.S6x2048x2816 .f32) (j : Spec.S6x2048x2816.Idx)
    (h : ∀ k : Fin 128, T (ix2 (x 1) k) = v (ix3 (j 0) (j 1) (Spec.ent (Spec.blk (j 2)) k)))
    (hx : T (ix2 (x 1) (x 2)) = v j) : k2_pay12 T x = Spec.vCode v j := by
  pointwise [k2_pay12, k2_pay11, k2_pay10, Spec.vCode, Spec.vScale]
  rw [Spec.byte_of_int]
  simp only [h, hx]

/-- One entry of the step, from a tile of the second moment and a tile of the rotated momentum over `c1`. -/
theorem tile2_u (T M : FVec Ideal S256x128 .f32) (c2 eps : Ideal .f32) (x : S1x256x128.Idx) :
    k2_pay9 T M c2 eps x = Ideal.div (M (ix2 (x 1) (x 2))) (Ideal.sqrt (Ideal.div (T (ix2 (x 1) (x 2))) c2) + eps) := by
  pointwise [k2_pay9]

/-- The rotated gradient in the first half of a column tile, and the second moment there. -/
theorem tile2_v0 (v0 : Vec Ideal S1x2816x256 .i8) (v3 : Vec Ideal S1x1x256 .f32) (v5 : Vec Ideal S1x256x2816 .bf16)
    (v17 : Vec Ideal S1x256x128 .i8) (v21 : Vec Ideal S1x256x1 .f32) (x : S256x128.Idx) :
    k2_pay7 v0 v3 v5 v17 v21 x
      = Ideal.ofBits .f32 0x3F733333#32 * (FloatOps.uitofp (F := Ideal) .f32 (v17 (ix3 0 (x 0) (x 1))) * v21 (ix3 0 (x 0) 0))
            * (FloatOps.uitofp (F := Ideal) .f32 (v17 (ix3 0 (x 0) (x 1))) * v21 (ix3 0 (x 0) 0))
        + Ideal.ofBits .f32 0x3D4CCCCD#32 * k2_pay5 (F := Ideal) v0 v3 v5 (ix2 (x 0) ⟨x 1, by have : (x 1 : ℕ) < 128 := (x 1).2; omega⟩)
            * k2_pay5 (F := Ideal) v0 v3 v5 (ix2 (x 0) ⟨x 1, by have : (x 1 : ℕ) < 128 := (x 1).2; omega⟩) := by
  pointwise [k2_pay7]
  simp only [Spec.sitofp_widen]

/-- The same in the second half of a column tile. -/
theorem tile2_v1 (r : FVec Ideal S256x256 .f32)
    (v17 : Vec Ideal S1x256x128 .i8) (v21 : Vec Ideal S1x256x1 .f32) (x : S256x128.Idx) :
    k2_pay17 (k2_pay14 r) (k2_pay16 v17) v21 x
      = Ideal.ofBits .f32 0x3F733333#32 * (FloatOps.uitofp (F := Ideal) .f32 (v17 (ix3 0 (x 0) (x 1))) * v21 (ix3 0 (x 0) 0))
            * (FloatOps.uitofp (F := Ideal) .f32 (v17 (ix3 0 (x 0) (x 1))) * v21 (ix3 0 (x 0) 0))
        + Ideal.ofBits .f32 0x3D4CCCCD#32 * r (ix2 (x 0) ⟨128 + x 1, by have : (x 1 : ℕ) < 128 := (x 1).2; omega⟩)
            * r (ix2 (x 0) ⟨128 + x 1, by have : (x 1 : ℕ) < 128 := (x 1).2; omega⟩) := by
  pointwise [k2_pay17, k2_pay14, k2_pay16]
  simp only [Spec.sitofp_widen]

/-- The rotated gradient in a 256-column tile. -/
theorem tile2_r (v0 : Vec Ideal S1x2816x256 .i8) (v3 : Vec Ideal S1x1x256 .f32) (v5 : Vec Ideal S1x256x2816 .bf16) (x : S256x256.Idx) :
    k2_pay5 v0 v3 v5 x = (∑ k : Fin 2816, v5 (ix3 0 (x 0) k) * FloatOps.sitofp (F := Ideal) .bf16 (v0 (ix3 0 k (x 1)))) * v3 (ix3 0 0 (x 1)) := by
  pointwise [k2_pay5, k2_pay4, k2_pay3]

/-- The rotated momentum over `c1` in the first half of a column tile. -/
theorem tile2_m0 (v0 : Vec Ideal S1x2816x256 .i8) (v3 : Vec Ideal S1x1x256 .f32) (v10 : Vec Ideal S1x256x2816 .bf16) (c1 : Ideal .f32)
    (x : S256x128.Idx) :
    k2_pay8 v0 v3 v10 c1 x
      = Ideal.div (k2_pay5 (F := Ideal) v0 v3 v10 (ix2 (x 0) ⟨x 1, by have : (x 1 : ℕ) < 128 := (x 1).2; omega⟩)) c1 := by
  show Ideal.div (k2_pay6 (F := Ideal) v0 v3 v10 _) c1 = _
  pointwise [k2_pay6, k2_pay5, k2_pay4, k2_pay3]

/-- The same in the second half. -/
theorem tile2_m1 (r : FVec Ideal S256x256 .f32) (c1 : Ideal .f32) (x : S256x128.Idx) :
    divf (k2_pay15 r) (broadcast S256x128 c1) x
      = Ideal.div (r (ix2 (x 0) ⟨128 + x 1, by have : (x 1 : ℕ) < 128 := (x 1).2; omega⟩)) c1 := by
  pointwise [k2_pay15]

variable (V : (c : Dev nD) → (b : Ref sig .tc) → Buf (Elt Ideal) ((c : Thread nD τ).loc b))

/-- Which block each window takes at a grid point, and which entry of the tables of six numbers is read there. -/
theorem idx2 : ∀ t : Fin cfg2.N, win2_0.index t = ![0] ∧ win2_1.index t = ![0] ∧ win2_2.index t = ![0]
      ∧ win2_3.index t = ![t.val / 8, t.val % 8, 0] ∧ win2_4.index t = ![t.val / 8, t.val % 8, 0]
      ∧ win2_5.index t = ![t.val / 8, 0, 0] ∧ win2_6.index t = ![t.val / 8, 0, 0]
      ∧ win2_7.index t = ![t.val / 8, t.val % 8, 0] ∧ win2_8.index t = ![t.val / 8, t.val % 8, 0]
      ∧ win2_9.index t = ![t.val / 8, t.val % 8, 0] ∧ win2_10.index t = ![t.val / 8, t.val % 8, 0]
      ∧ win2_11.index t = ![t.val / 8, t.val % 8, 0] ∧ k2_off1 (grid2.coords t) = ![t.val / 8] :=
  (by decide +kernel : ∀ t : Fin grid2.N, _)

/-- The rotated gradient, of the arrays as the pass finds them. -/
def gr2 (c : Dev nD) : FVec Ideal Spec.S6x2048x2816 .f32 :=
  Spec.rotR (V c main_v2_0) (V c main_arg10) (fun i => V c main_v4 (ix3 (i 0) 0 (i 1)))

/-- The rotated momentum, of the arrays as the pass finds them. -/
def mr2 (c : Dev nD) : FVec Ideal Spec.S6x2048x2816 .f32 :=
  Spec.rotR (V c main_v2_1) (V c main_arg10) (fun i => V c main_v4 (ix3 (i 0) 0 (i 1)))

/-- The new second moment, of the arrays as the pass finds them. -/
def vn2 (c : Dev nD) : FVec Ideal Spec.S6x2048x2816 .f32 := Spec.vNew (gr2 V c) (V c main_arg4) (V c main_arg5)

/-- A 256-column tile of the rotated gradient at a grid point. -/
theorem gr2_at (c : Dev nD) (t : Fin cfg2.N) (o : Nat)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (z : S256x256.Idx) (j : Spec.S6x2048x2816.Idx)
    (h0 : (j 0 : ℕ) = t.val / 8) (h1 : (j 1 : ℕ) = t.val % 8 * 256 + z 0) (h2 : (j 2 : ℕ) = o + z 1) :
    k2_pay5 (F := Ideal) (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 3 t) z = gr2 V c j := by
  rw [tile2_r]
  unfold gr2
  blk_point [iblk2, idx2 t, Spec.rotR]

/-- A 256-column tile of the rotated momentum at a grid point. -/
theorem mr2_at (c : Dev nD) (t : Fin cfg2.N) (o : Nat)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (z : S256x256.Idx) (j : Spec.S6x2048x2816.Idx)
    (h0 : (j 0 : ℕ) = t.val / 8) (h1 : (j 1 : ℕ) = t.val % 8 * 256 + z 0) (h2 : (j 2 : ℕ) = o + z 1) :
    k2_pay5 (F := Ideal) (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 4 t) z = mr2 V c j := by
  rw [tile2_r]
  unfold mr2
  blk_point [iblk2, idx2 t, Spec.rotR]

/-- The first half tile of a column group holds the second moment that lies there. -/
theorem vn2_at0 (c : Dev nD) (t : Fin cfg2.N) (o b : Nat) (ho : o = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, o] : Fin 3 → Nat) a + S1x256x128.size a ≤ S1x256x2816.size a)
    (inc' : ∀ a, (![0, 0, b] : Fin 3 → Nat) a + S1x256x1.size a ≤ S1x256x22.size a)
    (z : S256x128.Idx) (j : Spec.S6x2048x2816.Idx)
    (h0 : (j 0 : ℕ) = t.val / 8) (h1 : (j 1 : ℕ) = t.val % 8 * 256 + z 0) (h2 : (j 2 : ℕ) = b * 128 + z 1) :
    k2_pay7 (F := Ideal) (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 3 t)
      (View.ld (iblk2 V c 7 t) (Rect.unit (s := S1x256x2816) ![0, 0, o] S1x256x128.size inc))
      (View.ld (iblk2 V c 8 t) (Rect.unit (s := S1x256x22) ![0, 0, b] S1x256x1.size inc')) z = vn2 V c j := by
  rw [tile2_v0, gr2_at V c t o inb inb' _ j h0 h1 (by show (j 2 : ℕ) = o + (z 1 : ℕ); omega)]
  unfold vn2
  generalize gr2 V c = r
  blk_point [iblk2, idx2 t, Spec.vNew]

/-- The second half tile of a column group holds the second moment that lies there. -/
theorem vn2_at1 (c : Dev nD) (t : Fin cfg2.N) (o p b : Nat) (hp : p = o + 128) (ho : p = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, p] : Fin 3 → Nat) a + S1x256x128.size a ≤ S1x256x2816.size a)
    (inc' : ∀ a, (![0, 0, b] : Fin 3 → Nat) a + S1x256x1.size a ≤ S1x256x22.size a)
    (z : S256x128.Idx) (j : Spec.S6x2048x2816.Idx)
    (h0 : (j 0 : ℕ) = t.val / 8) (h1 : (j 1 : ℕ) = t.val % 8 * 256 + z 0) (h2 : (j 2 : ℕ) = b * 128 + z 1) :
    k2_pay17 (F := Ideal) (k2_pay14 (k2_pay5 (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 3 t)))
      (k2_pay16 (View.ld (iblk2 V c 7 t) (Rect.unit (s := S1x256x2816) ![0, 0, p] S1x256x128.size inc)))
      (View.ld (iblk2 V c 8 t) (Rect.unit (s := S1x256x22) ![0, 0, b] S1x256x1.size inc')) z = vn2 V c j := by
  rw [tile2_v1, gr2_at V c t o inb inb' _ j h0 h1 (by show (j 2 : ℕ) = o + (128 + (z 1 : ℕ)); omega)]
  unfold vn2
  generalize gr2 V c = r
  blk_point [iblk2, idx2 t, Spec.vNew]

/-- Where an entry of a block of the step lies in its array. -/
theorem emb2_9 (t : Fin cfg2.N) (y : S1x256x2816.Idx) : (((win2_9.blk t).view.emb y) 0 : ℕ) = t.val / 8
    ∧ (((win2_9.blk t).view.emb y) 1 : ℕ) = t.val % 8 * 256 + y 1 ∧ (((win2_9.blk t).view.emb y) 2 : ℕ) = y 2 := by
  have hy : (y 0 : ℕ) < 1 := (y 0).2
  refine ⟨?_, ?_, ?_⟩ <;> blk_simp [idx2 t] <;> omega

/-- Where an entry of a block of the codes lies in its array. -/
theorem emb2_10 (t : Fin cfg2.N) (y : S1x256x2816.Idx) : (((win2_10.blk t).view.emb y) 0 : ℕ) = t.val / 8
    ∧ (((win2_10.blk t).view.emb y) 1 : ℕ) = t.val % 8 * 256 + y 1 ∧ (((win2_10.blk t).view.emb y) 2 : ℕ) = y 2 := by
  have hy : (y 0 : ℕ) < 1 := (y 0).2
  refine ⟨?_, ?_, ?_⟩ <;> blk_simp [idx2 t] <;> omega

/-- Where an entry of a block of the scales lies in its array. -/
theorem emb2_11 (t : Fin cfg2.N) (y : S1x256x22.Idx) : (((win2_11.blk t).view.emb y) 0 : ℕ) = t.val / 8
    ∧ (((win2_11.blk t).view.emb y) 1 : ℕ) = t.val % 8 * 256 + y 1 ∧ (((win2_11.blk t).view.emb y) 2 : ℕ) = y 2 := by
  have hy : (y 0 : ℕ) < 1 := (y 0).2
  refine ⟨?_, ?_, ?_⟩ <;> blk_simp [idx2 t] <;> omega

/-- One entry of the step, from the entries of the rotated momentum and of the second moment. -/
theorem upd2_at (c : Dev nD) (t : Fin cfg2.N) (y : S1x256x2816.Idx) (r v : FVec Ideal Spec.S6x2048x2816 .f32)
    (off : ∀ a, k2_off1 (grid2.coords t) a + (![1] : Fin 1 → Nat) a ≤ S6.size a) (pos : 0 < (Rect.unit (s := S6) (k2_off1 (grid2.coords t)) ![1] off).shape.numel) :
    Ideal.div (Ideal.div (r ((win2_9.blk t).view.emb y)) (View.ld (iblk2 V c 0 t) (Rect.unit (s := S6) (k2_off1 (grid2.coords t)) ![1] off) (Shape.Idx.first pos)))
      (Ideal.sqrt (Ideal.div (v ((win2_9.blk t).view.emb y)) (View.ld (iblk2 V c 1 t) (Rect.unit (s := S6) (k2_off1 (grid2.coords t)) ![1] off) (Shape.Idx.first pos)))
        + View.ld (iblk2 V c 2 t) (Rect.unit (s := S6) (k2_off1 (grid2.coords t)) ![1] off) (Shape.Idx.first pos))
      = Spec.upd r v (V c main_arg12) (V c main_arg13) (V c main_arg14) ((win2_9.blk t).view.emb y) := by
  blk_point [iblk2, idx2 t, Spec.upd]

end Cert.KernelIdeal.Value
-- ==== Proof.Halves2.lean ====
module
public import proofs.«01_k».proof.Proof.Gen.KernelIdeal.Frame.Region2
public import proofs.«01_k».proof.Proof.Tiles2
public import Idealize.ShloMosaic.Lib.Pipeline.ValueKit
public import Idealize.ShloMosaic.Lib.Pointwise
@[expose] public section
set_option maxRecDepth 16384

/-!
The second pass: the step, the second moment's codes and the scales of its blocks, as the array of each holds them.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The tile of the second moment of the first half of a column group. -/
abbrev T0 (c : Dev nD) (t : Fin cfg2.N) (o b : Nat)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, o] : Fin 3 → Nat) a + S1x256x128.size a ≤ S1x256x2816.size a)
    (inc' : ∀ a, (![0, 0, b] : Fin 3 → Nat) a + S1x256x1.size a ≤ S1x256x22.size a) : FVec Ideal S256x128 .f32 :=
  k2_pay7 (F := Ideal) (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 3 t)
      (View.ld (iblk2 V c 7 t) (Rect.unit (s := S1x256x2816) ![0, 0, o] S1x256x128.size inc))
      (View.ld (iblk2 V c 8 t) (Rect.unit (s := S1x256x22) ![0, 0, b] S1x256x1.size inc'))

/-- The tile of the second moment of the second half of a column group. -/
abbrev T1 (c : Dev nD) (t : Fin cfg2.N) (o p b : Nat)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, p] : Fin 3 → Nat) a + S1x256x128.size a ≤ S1x256x2816.size a)
    (inc' : ∀ a, (![0, 0, b] : Fin 3 → Nat) a + S1x256x1.size a ≤ S1x256x22.size a) : FVec Ideal S256x128 .f32 :=
  k2_pay17 (F := Ideal) (k2_pay14 (k2_pay5 (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 3 t)))
      (k2_pay16 (View.ld (iblk2 V c 7 t) (Rect.unit (s := S1x256x2816) ![0, 0, p] S1x256x128.size inc)))
      (View.ld (iblk2 V c 8 t) (Rect.unit (s := S1x256x22) ![0, 0, b] S1x256x1.size inc'))

/-- A tile that holds the second moment of block `b` gives the codes of that block. -/
theorem codes_of (c : Dev nD) (t : Fin cfg2.N) (y : S1x256x2816.Idx) (x : S1x256x128.Idx) (b : Nat) (T : FVec Ideal S256x128 .f32)
    (hT : ∀ (z : S256x128.Idx) (j : Spec.S6x2048x2816.Idx), (j 0 : ℕ) = t.val / 8 → (j 1 : ℕ) = t.val % 8 * 256 + z 0 →
      (j 2 : ℕ) = b * 128 + z 1 → T z = vn2 V c j)
    (h1 : (y 1 : ℕ) = x 1) (h2 : (y 2 : ℕ) = b * 128 + x 2) :
    k2_pay12 T x = Spec.vCode (vn2 V c) ((win2_10.blk t).view.emb y) := by
  obtain ⟨e0, e1, e2⟩ := emb2_10 t y
  have hx : (x 2 : ℕ) < 128 := (x 2).2
  refine tile2_c _ _ _ _ (fun k => ?_) ?_
  · exact hT _ _ e0 (by show ((win2_10.blk t).view.emb y 1 : ℕ) = _; rw [e1, h1]; rfl)
      (by
        show ((win2_10.blk t).view.emb y 2 : ℕ) / 128 * 128 + (k : ℕ) = b * 128 + (k : ℕ)
        rw [e2, h2]; omega)
  · exact hT _ _ e0 (by rw [e1, h1]; rfl) (by rw [e2, h2]; rfl)

/-- A tile that holds the second moment of block `b` gives the scales of that block. -/
theorem scales_of (c : Dev nD) (t : Fin cfg2.N) (y : S1x256x22.Idx) (x : S1x256x1.Idx) (b : Nat) (T : FVec Ideal S256x128 .f32)
    (hT : ∀ (z : S256x128.Idx) (j : Spec.S6x2048x2816.Idx), (j 0 : ℕ) = t.val / 8 → (j 1 : ℕ) = t.val % 8 * 256 + z 0 →
      (j 2 : ℕ) = b * 128 + z 1 → T z = vn2 V c j)
    (h1 : (y 1 : ℕ) = x 1) (h2 : (y 2 : ℕ) = b) :
    k2_pay13 T x = Spec.vScale (vn2 V c) ((win2_11.blk t).view.emb y) := by
  obtain ⟨e0, e1, e2⟩ := emb2_11 t y
  refine tile2_s _ _ _ _ fun k => ?_
  exact hT _ _ e0 (by show ((win2_11.blk t).view.emb y 1 : ℕ) = _; rw [e1, h1]; rfl)
    (by show ((win2_11.blk t).view.emb y 2 : ℕ) * 128 + (k : ℕ) = _; rw [e2, h2]; rfl)

/-- Two tiles, one that holds the second moment of block `b` and one the rotated momentum there over `c1`, give the step there. -/
theorem step_of (c : Dev nD) (t : Fin cfg2.N) (y : S1x256x2816.Idx) (x : S1x256x128.Idx) (b : Nat) (T M : FVec Ideal S256x128 .f32)
    (off : ∀ a, k2_off1 (grid2.coords t) a + (![1] : Fin 1 → Nat) a ≤ S6.size a) (pos : 0 < (Rect.unit (s := S6) (k2_off1 (grid2.coords t)) ![1] off).shape.numel)
    (hT : ∀ (z : S256x128.Idx) (j : Spec.S6x2048x2816.Idx), (j 0 : ℕ) = t.val / 8 → (j 1 : ℕ) = t.val % 8 * 256 + z 0 →
      (j 2 : ℕ) = b * 128 + z 1 → T z = vn2 V c j)
    (hM : ∀ (z : S256x128.Idx) (j : Spec.S6x2048x2816.Idx), (j 0 : ℕ) = t.val / 8 → (j 1 : ℕ) = t.val % 8 * 256 + z 0 →
      (j 2 : ℕ) = b * 128 + z 1 → M z = Ideal.div (mr2 V c j)
        (View.ld (iblk2 V c 0 t) (Rect.unit (s := S6) (k2_off1 (grid2.coords t)) ![1] off) (Shape.Idx.first pos)))
    (h1 : (y 1 : ℕ) = x 1) (h2 : (y 2 : ℕ) = b * 128 + x 2) :
    k2_pay9 T M (View.ld (iblk2 V c 1 t) (Rect.unit (s := S6) (k2_off1 (grid2.coords t)) ![1] off) (Shape.Idx.first pos))
      (View.ld (iblk2 V c 2 t) (Rect.unit (s := S6) (k2_off1 (grid2.coords t)) ![1] off) (Shape.Idx.first pos)) x
      = Spec.upd (mr2 V c) (vn2 V c) (V c main_arg12) (V c main_arg13) (V c main_arg14) ((win2_9.blk t).view.emb y) := by
  obtain ⟨e0, e1, e2⟩ := emb2_9 t y
  rw [tile2_u, hT _ _ e0 (by rw [e1, h1]; rfl) (by rw [e2, h2]; rfl), hM _ _ e0 (by rw [e1, h1]; rfl) (by rw [e2, h2]; rfl)]
  exact upd2_at V c t y _ _ off pos

/-- The rotated momentum over `c1` in the first half of a column group. -/
theorem mom_at0 (c : Dev nD) (t : Fin cfg2.N) (o b : Nat) (ho : o = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a) (c1 : Ideal .f32)
    (z : S256x128.Idx) (j : Spec.S6x2048x2816.Idx)
    (h0 : (j 0 : ℕ) = t.val / 8) (h1 : (j 1 : ℕ) = t.val % 8 * 256 + z 0) (h2 : (j 2 : ℕ) = b * 128 + z 1) :
    k2_pay8 (F := Ideal) (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 4 t) c1 z = Ideal.div (mr2 V c j) c1 := by
  rw [tile2_m0, mr2_at V c t o inb inb' _ j h0 h1 (by show (j 2 : ℕ) = o + (z 1 : ℕ); omega)]

/-- The rotated momentum over `c1` in the second half of a column group. -/
theorem mom_at1 (c : Dev nD) (t : Fin cfg2.N) (o p b : Nat) (hp : p = o + 128) (ho : p = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a) (c1 : Ideal .f32)
    (z : S256x128.Idx) (j : Spec.S6x2048x2816.Idx)
    (h0 : (j 0 : ℕ) = t.val / 8) (h1 : (j 1 : ℕ) = t.val % 8 * 256 + z 0) (h2 : (j 2 : ℕ) = b * 128 + z 1) :
    divf (k2_pay15 (k2_pay6 (F := Ideal) (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 4 t))) (broadcast S256x128 c1) z
      = Ideal.div (mr2 V c j) c1 := by
  rw [show k2_pay6 (F := Ideal) (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 4 t)
    = k2_pay5 (F := Ideal) (View.ld (iblk2 V c 5 t) (Rect.unit (s := S1x2816x2816) ![0, 0, o] S1x2816x256.size inb))
      (View.ld (iblk2 V c 6 t) (Rect.unit (s := S1x1x2816) ![0, 0, o] S1x1x256.size inb')) (iblk2 V c 4 t) from rfl]
  rw [tile2_m1, mr2_at V c t o inb inb' _ j h0 h1 (by show (j 2 : ℕ) = o + (128 + (z 1 : ℕ)); omega)]

/-- The codes stored by the first half of a column group. -/
theorem codes0 (c : Dev nD) (t : Fin cfg2.N) (y : S1x256x2816.Idx) (x : S1x256x128.Idx) (o b : Nat) (ho : o = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, o] : Fin 3 → Nat) a + S1x256x128.size a ≤ S1x256x2816.size a)
    (inc' : ∀ a, (![0, 0, b] : Fin 3 → Nat) a + S1x256x1.size a ≤ S1x256x22.size a)
    (h1 : (y 1 : ℕ) = x 1) (h2 : (y 2 : ℕ) = o + x 2) :
    k2_pay12 (T0 V c t o b inb inb' inc inc') x = Spec.vCode (vn2 V c) ((win2_10.blk t).view.emb y) :=
  codes_of V c t y x b _ (vn2_at0 V c t o b ho inb inb' inc inc') h1 (by rw [h2, ho])

/-- The codes stored by the second half of a column group. -/
theorem codes1 (c : Dev nD) (t : Fin cfg2.N) (y : S1x256x2816.Idx) (x : S1x256x128.Idx) (o p b : Nat) (hp : p = o + 128) (ho : p = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, p] : Fin 3 → Nat) a + S1x256x128.size a ≤ S1x256x2816.size a)
    (inc' : ∀ a, (![0, 0, b] : Fin 3 → Nat) a + S1x256x1.size a ≤ S1x256x22.size a)
    (h1 : (y 1 : ℕ) = x 1) (h2 : (y 2 : ℕ) = p + x 2) :
    k2_pay12 (T1 V c t o p b inb inb' inc inc') x = Spec.vCode (vn2 V c) ((win2_10.blk t).view.emb y) :=
  codes_of V c t y x b _ (vn2_at1 V c t o p b hp ho inb inb' inc inc') h1 (by rw [h2, ho])

/-- The scales stored by the first half of a column group. -/
theorem scales0 (c : Dev nD) (t : Fin cfg2.N) (y : S1x256x22.Idx) (x : S1x256x1.Idx) (o b : Nat) (ho : o = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, o] : Fin 3 → Nat) a + S1x256x128.size a ≤ S1x256x2816.size a)
    (inc' : ∀ a, (![0, 0, b] : Fin 3 → Nat) a + S1x256x1.size a ≤ S1x256x22.size a)
    (h1 : (y 1 : ℕ) = x 1) (h2 : (y 2 : ℕ) = b) :
    k2_pay13 (T0 V c t o b inb inb' inc inc') x = Spec.vScale (vn2 V c) ((win2_11.blk t).view.emb y) :=
  scales_of V c t y x b _ (vn2_at0 V c t o b ho inb inb' inc inc') h1 h2

/-- The scales stored by the second half of a column group. -/
theorem scales1 (c : Dev nD) (t : Fin cfg2.N) (y : S1x256x22.Idx) (x : S1x256x1.Idx) (o p b : Nat) (hp : p = o + 128) (ho : p = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, p] : Fin 3 → Nat) a + S1x256x128.size a ≤ S1x256x2816.size a)
    (inc' : ∀ a, (![0, 0, b] : Fin 3 → Nat) a + S1x256x1.size a ≤ S1x256x22.size a)
    (h1 : (y 1 : ℕ) = x 1) (h2 : (y 2 : ℕ) = b) :
    k2_pay13 (T1 V c t o p b inb inb' inc inc') x = Spec.vScale (vn2 V c) ((win2_11.blk t).view.emb y) :=
  scales_of V c t y x b _ (vn2_at1 V c t o p b hp ho inb inb' inc inc') h1 h2

/-- The step stored by the first half of a column group. -/
theorem step0 (c : Dev nD) (t : Fin cfg2.N) (y : S1x256x2816.Idx) (x : S1x256x128.Idx) (o b : Nat) (ho : o = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, o] : Fin 3 → Nat) a + S1x256x128.size a ≤ S1x256x2816.size a)
    (inc' : ∀ a, (![0, 0, b] : Fin 3 → Nat) a + S1x256x1.size a ≤ S1x256x22.size a)
    (off : ∀ a, k2_off1 (grid2.coords t) a + (![1] : Fin 1 → Nat) a ≤ S6.size a) (pos : 0 < (Rect.unit (s := S6) (k2_off1 (grid2.coords t)) ![1] off).shape.numel)
    (h1 : (y 1 : ℕ) = x 1) (h2 : (y 2 : ℕ) = o + x 2) :
    k2_pay9 (T0 V c t o b inb inb' inc inc')
      (k2_pay8 (F := Ideal) (View.ld (iblk2 V c 5 t) (Rect.unit (s := S1x2816x2816) ![0, 0, o] S1x2816x256.size inb))
        (View.ld (iblk2 V c 6 t) (Rect.unit (s := S1x1x2816) ![0, 0, o] S1x1x256.size inb')) (iblk2 V c 4 t)
        (View.ld (iblk2 V c 0 t) (Rect.unit (s := S6) (k2_off1 (grid2.coords t)) ![1] off) (Shape.Idx.first pos)))
      (View.ld (iblk2 V c 1 t) (Rect.unit (s := S6) (k2_off1 (grid2.coords t)) ![1] off) (Shape.Idx.first pos))
      (View.ld (iblk2 V c 2 t) (Rect.unit (s := S6) (k2_off1 (grid2.coords t)) ![1] off) (Shape.Idx.first pos)) x
      = Spec.upd (mr2 V c) (vn2 V c) (V c main_arg12) (V c main_arg13) (V c main_arg14) ((win2_9.blk t).view.emb y) :=
  step_of V c t y x b _ _ off pos (vn2_at0 V c t o b ho inb inb' inc inc') (mom_at0 V c t o b ho inb inb' _) h1 (by rw [h2, ho])

/-- The step stored by the second half of a column group. -/
theorem step1 (c : Dev nD) (t : Fin cfg2.N) (y : S1x256x2816.Idx) (x : S1x256x128.Idx) (o p b : Nat) (hp : p = o + 128) (ho : p = b * 128)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (inc : ∀ a, (![0, 0, p] : Fin 3 → Nat) a + S1x256x128.size a ≤ S1x256x2816.size a)
    (inc' : ∀ a, (![0, 0, b] : Fin 3 → Nat) a + S1x256x1.size a ≤ S1x256x22.size a)
    (off : ∀ a, k2_off1 (grid2.coords t) a + (![1] : Fin 1 → Nat) a ≤ S6.size a) (pos : 0 < (Rect.unit (s := S6) (k2_off1 (grid2.coords t)) ![1] off).shape.numel)
    (h1 : (y 1 : ℕ) = x 1) (h2 : (y 2 : ℕ) = p + x 2) :
    k2_pay9 (T1 V c t o p b inb inb' inc inc')
      (divf (k2_pay15 (k2_pay6 (F := Ideal) (View.ld (iblk2 V c 5 t) (Rect.unit (s := S1x2816x2816) ![0, 0, o] S1x2816x256.size inb))
        (View.ld (iblk2 V c 6 t) (Rect.unit (s := S1x1x2816) ![0, 0, o] S1x1x256.size inb')) (iblk2 V c 4 t)))
        (broadcast S256x128 (View.ld (iblk2 V c 0 t) (Rect.unit (s := S6) (k2_off1 (grid2.coords t)) ![1] off) (Shape.Idx.first pos))))
      (View.ld (iblk2 V c 1 t) (Rect.unit (s := S6) (k2_off1 (grid2.coords t)) ![1] off) (Shape.Idx.first pos))
      (View.ld (iblk2 V c 2 t) (Rect.unit (s := S6) (k2_off1 (grid2.coords t)) ![1] off) (Shape.Idx.first pos)) x
      = Spec.upd (mr2 V c) (vn2 V c) (V c main_arg12) (V c main_arg13) (V c main_arg14) ((win2_9.blk t).view.emb y) :=
  step_of V c t y x b _ _ off pos (vn2_at1 V c t o p b hp ho inb inb' inc inc') (mom_at1 V c t o p b hp ho inb inb' _) h1 (by rw [h2, ho])

end Cert.KernelIdeal.Value
-- ==== Proof.Reg2.lean ====
module
public import proofs.«01_k».proof.Proof.Gen.KernelIdeal.Frame.Region2
public import proofs.«01_k».proof.Proof.Halves2
public import Idealize.ShloMosaic.Lib.Pipeline.ValueKit
public import Idealize.ShloMosaic.Lib.Pointwise
@[expose] public section
set_option maxRecDepth 16384

/-!
The second pass: the step, the second moment's codes and the scales of its blocks, as the array of each holds them.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

set_option maxHeartbeats 1000000 in
/-- What one grid point leaves in its block of the codes. -/
theorem point2_10 (c : Dev nD) (t : Fin cfg2.N) (y : S1x256x2816.Idx) :
    (outsAt2 V c t).2.1 y = Spec.vCode (vn2 V c) ((win2_10.blk t).view.emb y) := by
  unfold Gen.outsAt2
  frame_out
  canon_tiles x h
  case piece0 | piece2 | piece4 | piece6 | piece8 | piece10 | piece12 | piece14 | piece16 | piece18 | piece20 =>
    refine Eq.trans (b := k2_pay12 (F := Ideal) (k2_pay17 (k2_pay14 (k2_pay5 _ _ _)) (k2_pay16 _) _) x) rfl ?_
    exact codes1 V c t y x _ _ _ (by decide) (by decide) _ _ _ _ h1 (by omega)
  all_goals
    refine Eq.trans (b := k2_pay12 (F := Ideal) (k2_pay7 _ _ _ _ _) x) rfl ?_
    exact codes0 V c t y x _ _ (by decide) _ _ _ _ h1 (by omega)

set_option maxHeartbeats 1000000 in
/-- What one grid point leaves in its block of the scales. -/
theorem point2_11 (c : Dev nD) (t : Fin cfg2.N) (y : S1x256x22.Idx) :
    (outsAt2 V c t).2.2 y = Spec.vScale (vn2 V c) ((win2_11.blk t).view.emb y) := by
  unfold Gen.outsAt2
  frame_out
  canon_tiles x h
  case piece0 | piece2 | piece4 | piece6 | piece8 | piece10 | piece12 | piece14 | piece16 | piece18 | piece20 =>
    refine Eq.trans (b := k2_pay13 (F := Ideal) (k2_pay17 (k2_pay14 (k2_pay5 _ _ _)) (k2_pay16 _) _) x) rfl ?_
    exact scales1 V c t y x _ _ _ (by decide) (by decide) _ _ _ _ h1 (by omega)
  all_goals
    refine Eq.trans (b := k2_pay13 (F := Ideal) (k2_pay7 _ _ _ _ _) x) rfl ?_
    exact scales0 V c t y x _ _ (by decide) _ _ _ _ h1 (by omega)

set_option maxHeartbeats 1000000 in
/-- What one grid point leaves in its block of the step. -/
theorem point2_9 (c : Dev nD) (t : Fin cfg2.N) (y : S1x256x2816.Idx) :
    (outsAt2 V c t).1 y
      = Spec.upd (mr2 V c) (vn2 V c) (V c main_arg12) (V c main_arg13) (V c main_arg14) ((win2_9.blk t).view.emb y) := by
  unfold Gen.outsAt2
  frame_out
  canon_tiles x h
  case piece0 | piece2 | piece4 | piece6 | piece8 | piece10 | piece12 | piece14 | piece16 | piece18 | piece20 =>
    refine Eq.trans (b := k2_pay9 (F := Ideal) (k2_pay17 (k2_pay14 (k2_pay5 _ _ _)) (k2_pay16 _) _) (divf (k2_pay15 (k2_pay6 _ _ _)) (broadcast S256x128 _)) _ _ x) rfl ?_
    exact step1 V c t y x _ _ _ (by decide) (by decide) _ _ _ _ _ _ h1 (by omega)
  all_goals
    refine Eq.trans (b := k2_pay9 (F := Ideal) (k2_pay7 _ _ _ _ _) (k2_pay8 _ _ _ _) _ _ x) rfl ?_
    exact step0 V c t y x _ _ (by decide) _ _ _ _ _ _ h1 (by omega)

/-- The array of the step. -/
theorem arr2_9 (c : Dev nD) : (dat2 V c).arrAt 9 cfg2.N
    = Spec.upd (mr2 V c) (vn2 V c) (V c main_arg12) (V c main_arg13) (V c main_arg14) := by
  refine (dat2 V c).arrAt_eq_of_covers 9 _ (by decide +kernel) fun t _ y => ?_
  blk_simp
  rw [after2_9]
  exact point2_9 V c t y

/-- The array of the codes. -/
theorem arr2_10 (c : Dev nD) : (dat2 V c).arrAt 10 cfg2.N = Spec.vCode (vn2 V c) := by
  refine (dat2 V c).arrAt_eq_of_covers 10 _ (by decide +kernel) fun t _ y => ?_
  blk_simp
  rw [after2_10]
  exact point2_10 V c t y

/-- The array of the scales. -/
theorem arr2_11 (c : Dev nD) : (dat2 V c).arrAt 11 cfg2.N = Spec.vScale (vn2 V c) := by
  refine (dat2 V c).arrAt_eq_of_covers 11 _ (by decide +kernel) fun t _ y => ?_
  blk_simp
  rw [after2_11]
  exact point2_11 V c t y

end Cert.KernelIdeal.Value
-- ==== Proof.Reg3.lean ====
module
public import proofs.«01_k».proof.Proof.Gen.KernelIdeal.Frame.Region3
public import proofs.«01_k».proof.Proof.Spec
public import Idealize.ShloMosaic.Lib.Pipeline.ValueKit
public import Idealize.ShloMosaic.Lib.Pointwise
@[expose] public section
set_option maxRecDepth 16384

/-!
Region 3 of the kernel (rotation back from the left): the array it writes is `Spec.backL` of the step.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

/-- One 256×256 tile: rows of the scaled basis times a column tile of the step. -/
theorem tile3 (v0 : Vec Ideal S1x256x2048 .i8) (v3 : Vec Ideal S1x1x2048 .f32) (v8 : Vec Ideal S1x2048x256 .bf16)
    (x : S1x256x256.Idx) :
    k3_pay2 v0 v3 v8 x = ∑ k : Fin 2048, FloatOps.sitofp (F := Ideal) .bf16 (v0 (ix3 0 (x 1) k)) * v3 (ix3 0 0 k) * v8 (ix3 0 k (x 2)) := by
  pointwise [k3_pay2, k3_pay1]

variable (V : (c : Dev nD) → (b : Ref sig .tc) → Buf (Elt Ideal) ((c : Thread nD τ).loc b))

/-- Which block each window takes at a grid point. -/
theorem idx3 : ∀ t : Fin cfg3.N, win3_0.index t = ![t.val / 8, t.val % 8, 0] ∧ win3_1.index t = ![t.val / 8, 0, 0]
      ∧ win3_2.index t = ![t.val / 8, 0, 0] ∧ win3_3.index t = ![t.val / 8, t.val % 8, 0] :=
  (by decide +kernel : ∀ t : Fin grid3.N, _)

/-- The tile stored at column offset `o` holds the entries of `Spec.backL` that lie there. -/
theorem piece3 (c : Dev nD) (t : Fin cfg3.N) (y : S1x256x2816.Idx) (x : S1x256x256.Idx) (o : Nat)
    (inb : ∀ a, (![0, 0, o] : Fin 3 → Nat) a + S1x2048x256.size a ≤ S1x2048x2816.size a)
    (h0 : (y 0 : ℕ) = x 0) (h1 : (y 1 : ℕ) = x 1) (h2 : (y 2 : ℕ) = o + x 2) :
    k3_pay2 (F := Ideal) (View.ld (iblk3 V c 0 t) r3_0) (View.ld (iblk3 V c 1 t) r3_1)
        (View.ld (iblk3 V c 2 t) (Rect.unit (s := S1x2048x2816) ![0, 0, o] S1x2048x256.size inb)) x
      = Spec.backL (V c main_arg8) (fun i => V c main_v3 (ix3 (i 0) 0 (i 1))) (V c main_v5_0) ((win3_3.blk t).view.emb y) := by
  rw [tile3]
  blk_point [iblk3, idx3 t, Spec.backL]

/-- What one grid point leaves in its block. -/
theorem point3 (c : Dev nD) (t : Fin cfg3.N) (y : S1x256x2816.Idx) :
    out3_3 (iblk3 V c 0 t) (iblk3 V c 1 t) (iblk3 V c 2 t) y
      = Spec.backL (V c main_arg8) (fun i => V c main_v3 (ix3 (i 0) 0 (i 1))) (V c main_v5_0) ((win3_3.blk t).view.emb y) := by
  canon_tiles x h
  all_goals
    refine Eq.trans (b := k3_pay2 (View.ld (iblk3 V c 0 t) r3_0) (View.ld (iblk3 V c 1 t) r3_1) _ x) rfl ?_
    exact piece3 V c t y x _ _ h0 h1 (by omega)

/-- The array of left-rotated steps. -/
theorem arr3 (c : Dev nD) : (dat3 V c).arrAt 3 cfg3.N
    = Spec.backL (V c main_arg8) (fun i => V c main_v3 (ix3 (i 0) 0 (i 1))) (V c main_v5_0) := by
  refine (dat3 V c).arrAt_eq_of_covers 3 _ (by decide +kernel) fun t _ y => ?_
  blk_simp
  rw [after3_3]
  exact point3 V c t y

end Cert.KernelIdeal.Value
-- ==== Proof.Reg4.lean ====
module
public import proofs.«01_k».proof.Proof.Gen.KernelIdeal.Frame.Region4
public import proofs.«01_k».proof.Proof.Spec
public import Idealize.ShloMosaic.Lib.Pipeline.ValueKit
public import Idealize.ShloMosaic.Lib.Pointwise
@[expose] public section
set_option maxRecDepth 16384

/-!
Region 4 of the kernel (rotation back from the right, new weights): the arrays it writes are `Spec.backR` of the
left-rotated step and `Spec.wNew` of that.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

/-- One 256×256 tile of the step: rows of the left-rotated step times rows of the scaled basis. -/
theorem tile4_7 (v0 : Vec Ideal S1x1x2816 .f32) (v3 : Vec Ideal S1x256x2816 .i8) (v8 : Vec Ideal S1x256x2816 .bf16)
    (x : S1x256x256.Idx) :
    k4_pay4 v0 v3 v8 x = ∑ k : Fin 2816, v8 (ix3 0 (x 1) k) * (FloatOps.sitofp (F := Ideal) .bf16 (v3 (ix3 0 (x 2) k)) * v0 (ix3 0 0 k)) := by
  pointwise [k4_pay4, k4_pay3, k4_pay2]

/-- One 256×256 tile of the new weights, from the tile of the step. -/
theorem tile4_6 (v0 : Vec Ideal S1x1x2816 .f32) (v3 : Vec Ideal S1x256x2816 .i8) (v8 : Vec Ideal S1x256x2816 .bf16)
    (v14 v20 : Vec Ideal S1x256x256 .f32) (v17 v19 : Ideal .f32) (x : S1x256x256.Idx) :
    k4_pay5 (F := Ideal) v0 v3 v8 v14 v17 v19 v20 x = v14 x - v17 * (k4_pay4 (F := Ideal) v0 v3 v8 x + v19 * v20 x) := by
  pointwise [k4_pay5, k4_pay4, k4_pay3, k4_pay2]

variable (V : (c : Dev nD) → (b : Ref sig .tc) → Buf (Elt Ideal) ((c : Thread nD τ).loc b))

/-- Which block each window takes at a grid point, and which entry of the two tables of six numbers is read there. -/
theorem idx4 : ∀ t : Fin cfg4.N, win4_0.index t = ![0] ∧ win4_1.index t = ![0] ∧ win4_2.index t = ![t.val / 8, t.val % 8, 0]
      ∧ win4_3.index t = ![t.val / 8, 0, 0] ∧ win4_4.index t = ![t.val / 8, 0, 0] ∧ win4_5.index t = ![t.val / 8, t.val % 8, 0]
      ∧ win4_6.index t = ![t.val / 8, t.val % 8, 0] ∧ win4_7.index t = ![t.val / 8, t.val % 8, 0]
      ∧ k4_off1 (grid4.coords t) = ![t.val / 8] :=
  (by decide +kernel : ∀ t : Fin grid4.N, _)

/-- The tile of the step stored at column offset `o` holds the entries of `Spec.backR` that lie there. -/
theorem piece4_7 (c : Dev nD) (t : Fin cfg4.N) (y : S1x256x2816.Idx) (x : S1x256x256.Idx) (o : Nat)
    (inb : ∀ a, (![0, o, 0] : Fin 3 → Nat) a + S1x256x2816.size a ≤ S1x2816x2816.size a)
    (h0 : (y 0 : ℕ) = x 0) (h1 : (y 1 : ℕ) = x 1) (h2 : (y 2 : ℕ) = o + x 2) :
    k4_pay4 (F := Ideal) (iblk4 V c 4 t)
        (View.ld (iblk4 V c 3 t) (Rect.unit (s := S1x2816x2816) ![0, o, 0] S1x256x2816.size inb)) (iblk4 V c 2 t) x
      = Spec.backR (V c main_v6) (V c main_arg10) (fun i => V c main_v4 (ix3 (i 0) 0 (i 1))) ((win4_7.blk t).view.emb y) := by
  rw [tile4_7]
  blk_point [iblk4, idx4 t, Spec.backR]

/-- The same tile, placed in the array of weights. -/
theorem piece4_u (c : Dev nD) (t : Fin cfg4.N) (y : S1x256x2816.Idx) (x : S1x256x256.Idx) (o : Nat)
    (inb : ∀ a, (![0, o, 0] : Fin 3 → Nat) a + S1x256x2816.size a ≤ S1x2816x2816.size a)
    (h0 : (y 0 : ℕ) = x 0) (h1 : (y 1 : ℕ) = x 1) (h2 : (y 2 : ℕ) = o + x 2) :
    k4_pay4 (F := Ideal) (iblk4 V c 4 t)
        (View.ld (iblk4 V c 3 t) (Rect.unit (s := S1x2816x2816) ![0, o, 0] S1x256x2816.size inb)) (iblk4 V c 2 t) x
      = Spec.backR (V c main_v6) (V c main_arg10) (fun i => V c main_v4 (ix3 (i 0) 0 (i 1))) ((win4_6.blk t).view.emb y) := by
  rw [tile4_7]
  blk_point [iblk4, idx4 t, Spec.backR]

/-- The tile of the weights stored at column offset `o` holds the entries of `Spec.wNew` that lie there. -/
theorem piece4_6 (c : Dev nD) (t : Fin cfg4.N) (y : S1x256x2816.Idx) (x : S1x256x256.Idx) (o : Nat)
    (inb : ∀ a, (![0, o, 0] : Fin 3 → Nat) a + S1x256x2816.size a ≤ S1x2816x2816.size a)
    (inb' : ∀ a, (![0, 0, o] : Fin 3 → Nat) a + S1x256x256.size a ≤ S1x256x2816.size a)
    (off : ∀ a, k4_off1 (grid4.coords t) a + (![1] : Fin 1 → Nat) a ≤ S6.size a) (pos : 0 < (Rect.unit (s := S6) (k4_off1 (grid4.coords t)) ![1] off).shape.numel)
    (h0 : (y 0 : ℕ) = x 0) (h1 : (y 1 : ℕ) = x 1) (h2 : (y 2 : ℕ) = o + x 2) :
    k4_pay5 (F := Ideal) (iblk4 V c 4 t)
        (View.ld (iblk4 V c 3 t) (Rect.unit (s := S1x2816x2816) ![0, o, 0] S1x256x2816.size inb)) (iblk4 V c 2 t)
        (View.ld (iblk4 V c 5 t) (Rect.unit (s := S1x256x2816) ![0, 0, o] S1x256x256.size inb'))
        (View.ld (iblk4 V c 0 t) (Rect.unit (s := S6) (k4_off1 (grid4.coords t)) ![1] off) (Shape.Idx.first pos))
        (View.ld (iblk4 V c 1 t) (Rect.unit (s := S6) (k4_off1 (grid4.coords t)) ![1] off) (Shape.Idx.first pos))
        (View.ld (iblk4 V c 5 t) (Rect.unit (s := S1x256x2816) ![0, 0, o] S1x256x256.size inb')) x
      = Spec.wNew (V c main_arg0) (Spec.backR (V c main_v6) (V c main_arg10) (fun i => V c main_v4 (ix3 (i 0) 0 (i 1))))
          (V c main_arg15) (V c main_arg16) ((win4_6.blk t).view.emb y) := by
  rw [tile4_6, piece4_u V c t y x o inb h0 h1 h2]
  blk_point [iblk4, idx4 t, Spec.wNew]

/-- What one grid point leaves in its block of the step. -/
theorem point4_7 (c : Dev nD) (t : Fin cfg4.N) (y : S1x256x2816.Idx) :
    (outsAt4 V c t).2 y
      = Spec.backR (V c main_v6) (V c main_arg10) (fun i => V c main_v4 (ix3 (i 0) 0 (i 1))) ((win4_7.blk t).view.emb y) := by
  unfold Gen.outsAt4
  frame_out
  canon_tiles x h
  all_goals
    refine Eq.trans (b := k4_pay4 (iblk4 V c 4 t) _ (iblk4 V c 2 t) x) rfl ?_
    exact piece4_7 V c t y x _ _ h0 h1 (by omega)

/-- What one grid point leaves in its block of the weights. -/
theorem point4_6 (c : Dev nD) (t : Fin cfg4.N) (y : S1x256x2816.Idx) :
    (outsAt4 V c t).1 y
      = Spec.wNew (V c main_arg0) (Spec.backR (V c main_v6) (V c main_arg10) (fun i => V c main_v4 (ix3 (i 0) 0 (i 1))))
          (V c main_arg15) (V c main_arg16) ((win4_6.blk t).view.emb y) := by
  unfold Gen.outsAt4
  frame_out
  canon_tiles x h
  all_goals
    refine Eq.trans (b := k4_pay5 (iblk4 V c 4 t) _ (iblk4 V c 2 t) _ _ _ _ x) rfl ?_
    exact piece4_6 V c t y x _ _ _ _ _ h0 h1 (by omega)

/-- The array of steps. -/
theorem arr4_7 (c : Dev nD) : (dat4 V c).arrAt 7 cfg4.N
    = Spec.backR (V c main_v6) (V c main_arg10) (fun i => V c main_v4 (ix3 (i 0) 0 (i 1))) := by
  refine (dat4 V c).arrAt_eq_of_covers 7 _ (by decide +kernel) fun t _ y => ?_
  blk_simp
  rw [after4_7]
  exact point4_7 V c t y

/-- The array of new weights. -/
theorem arr4_6 (c : Dev nD) : (dat4 V c).arrAt 6 cfg4.N
    = Spec.wNew (V c main_arg0) (Spec.backR (V c main_v6) (V c main_arg10) (fun i => V c main_v4 (ix3 (i 0) 0 (i 1))))
          (V c main_arg15) (V c main_arg16) := by
  refine (dat4 V c).arrAt_eq_of_covers 6 _ (by decide +kernel) fun t _ y => ?_
  blk_simp
  rw [after4_6]
  exact point4_6 V c t y

end Cert.KernelIdeal.Value
-- ==== Proof.Tiles5.lean ====
module
public import proofs.«01_k».proof.Proof.Gen.KernelIdeal.Frame.Region5
public import proofs.«01_k».proof.Proof.Spec
public import Idealize.ShloMosaic.Lib.Pipeline.ValueKit
public import Idealize.ShloMosaic.Lib.Pointwise
@[expose] public section
set_option maxRecDepth 16384

/-!
Region 5 of the kernel (left statistics and left product): the arrays it writes are `Spec.lNew` of the gradient and the
old statistics, and `Spec.prodL` of that.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

/-- One 256×256 tile of the statistics: `0.95` times the old tile plus `0.05` times the product of two row tiles of the gradient. -/
theorem tile5_5 (v0 : Vec Ideal S1x256x256 .f32) (v4 v6 : Vec Ideal S1x256x2816 .bf16) (x : S1x256x256.Idx) :
    k5_pay2 v0 v4 v6 x = Scalar.ofBits (F := Ideal) .f32 0x3F733333#32 * v0 x
      + Scalar.ofBits (F := Ideal) .f32 0x3D4CCCCD#32 * ∑ k : Fin 2816, v4 (ix3 0 (x 1) k) * v6 (ix3 0 (x 2) k) := by
  pointwise [k5_pay2]

/-- One 256×256 tile of the product: rows of the new statistics times columns of the basis, columns scaled. -/
theorem tile5_6 (v0 : Vec Ideal S1x256x2048 .f32) (v3 : Vec Ideal S1x2048x256 .i8) (v7 : Vec Ideal S1x1x256 .f32)
    (x : S1x256x256.Idx) :
    k5_pay17 v0 v3 v7 x = (∑ k : Fin 2048, v0 (ix3 0 (x 1) k) * FloatOps.sitofp (F := Ideal) .bf16 (v3 (ix3 0 k (x 2))))
      * v7 (ix3 0 0 (x 2)) := by
  pointwise [k5_pay17, k5_pay16]

variable (V : (c : Dev nD) → (b : Ref sig .tc) → Buf (Elt Ideal) ((c : Thread nD τ).loc b))

/-- Which block each window takes at a grid point. -/
theorem idx5 : ∀ t : Fin cfg5.N, win5_0.index t = ![t.val / 8, t.val % 8, 0] ∧ win5_1.index t = ![t.val / 8, 0, 0]
      ∧ win5_2.index t = ![t.val / 8, t.val % 8, 0] ∧ win5_3.index t = ![t.val / 8, 0, 0] ∧ win5_4.index t = ![t.val / 8, 0, 0]
      ∧ win5_5.index t = ![t.val / 8, t.val % 8, 0] ∧ win5_6.index t = ![t.val / 8, t.val % 8, 0] :=
  (by decide +kernel : ∀ t : Fin grid5.N, _)

/-- The tile of the statistics stored at column offset `o` holds the entries of `Spec.lNew` that lie there. -/
theorem piece5_5 (c : Dev nD) (t : Fin cfg5.N) (y : S1x256x2048.Idx) (x : S1x256x256.Idx) (o : Nat)
    (inb : ∀ a, (![0, 0, o] : Fin 3 → Nat) a + S1x256x256.size a ≤ S1x256x2048.size a)
    (inb' : ∀ a, (![0, o, 0] : Fin 3 → Nat) a + S1x256x2816.size a ≤ S1x2048x2816.size a)
    (h0 : (y 0 : ℕ) = x 0) (h1 : (y 1 : ℕ) = x 1) (h2 : (y 2 : ℕ) = o + x 2) :
    k5_pay2 (F := Ideal) (View.ld (iblk5 V c 2 t) (Rect.unit (s := S1x256x2048) ![0, 0, o] S1x256x256.size inb))
        (iblk5 V c 0 t) (View.ld (iblk5 V c 1 t) (Rect.unit (s := S1x2048x2816) ![0, o, 0] S1x256x2816.size inb')) x
      = Spec.lNew (V c main_arg1) (V c main_arg6) ((win5_5.blk t).view.emb y) := by
  rw [tile5_5]
  blk_point [iblk5, idx5 t, Spec.lNew]

/-- The block of new statistics, as one grid point holds it. -/
def lblk (c : Dev nD) (t : Fin cfg5.N) : FVec Ideal S1x256x2048 .f32 := fun y =>
  Spec.lNew (V c main_arg1) (V c main_arg6) ((win5_5.blk t).view.emb y)

/-- The tile of the product stored at column offset `o` holds the entries of `Spec.prodL` that lie there. -/
theorem piece5_6 (c : Dev nD) (t : Fin cfg5.N) (y : S1x256x2048.Idx) (x : S1x256x256.Idx) (o : Nat)
    (inb : ∀ a, (![0, 0, o] : Fin 3 → Nat) a + S1x2048x256.size a ≤ S1x2048x2048.size a)
    (inb' : ∀ a, (![0, 0, o] : Fin 3 → Nat) a + S1x1x256.size a ≤ S1x1x2048.size a)
    (h0 : (y 0 : ℕ) = x 0) (h1 : (y 1 : ℕ) = x 1) (h2 : (y 2 : ℕ) = o + x 2) :
    k5_pay17 (F := Ideal) (lblk V c t) (View.ld (iblk5 V c 3 t) (Rect.unit (s := S1x2048x2048) ![0, 0, o] S1x2048x256.size inb))
        (View.ld (iblk5 V c 4 t) (Rect.unit (s := S1x1x2048) ![0, 0, o] S1x1x256.size inb')) x
      = Spec.prodL (Spec.lNew (V c main_arg1) (V c main_arg6)) (V c main_arg8) (fun i => V c main_v3 (ix3 (i 0) 0 (i 1)))
          ((win5_6.blk t).view.emb y) := by
  rw [tile5_6]
  generalize hL : Spec.lNew (V c main_arg1) (V c main_arg6) = L
  have hl : lblk V c t = fun y => L ((win5_5.blk t).view.emb y) := by rw [← hL]; rfl
  rw [hl]
  blk_point [iblk5, idx5 t, Spec.prodL]

/-- What one grid point leaves in its block of the statistics. -/
theorem point5_5 (c : Dev nD) (t : Fin cfg5.N) (y : S1x256x2048.Idx) : (outsAt5 V c t).1 y = lblk V c t y := by
  unfold Gen.outsAt5
  frame_out
  canon_tiles x h
  all_goals
    refine Eq.trans (b := k5_pay2 _ (iblk5 V c 0 t) _ x) rfl ?_
    exact piece5_5 V c t y x _ _ _ h0 h1 (by omega)

end Cert.KernelIdeal.Value
-- ==== Proof.Reg5.lean ====
module
public import proofs.«01_k».proof.Proof.Gen.KernelIdeal.Frame.Region5
public import proofs.«01_k».proof.Proof.Tiles5
public import Idealize.ShloMosaic.Lib.Pipeline.ValueKit
public import Idealize.ShloMosaic.Lib.Pointwise
@[expose] public section
set_option maxRecDepth 16384

/-!
The pass over the left statistics: the new statistics and the left product for the next basis, as their arrays hold them.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

set_option maxHeartbeats 1000000 in
/-- What one grid point leaves in its block of the product: it reads the statistics it has just stored. -/
theorem point5_6 (c : Dev nD) (t : Fin cfg5.N) (y : S1x256x2048.Idx) :
    (outsAt5 V c t).2 y
      = Spec.prodL (Spec.lNew (V c main_arg1) (V c main_arg6)) (V c main_arg8) (fun i => V c main_v3 (ix3 (i 0) 0 (i 1)))
          ((win5_6.blk t).view.emb y) := by
  unfold Gen.outsAt5
  frame_out
  generalize hR : View.readCov (Val := Elt Ideal) _ _ _ = R
  have hl : R = lblk V c t := by
    rw [← hR, View.readCov_eq_canon']
    funext z
    refine Eq.trans ?_ (point5_5 V c t z)
    unfold Gen.outsAt5
    frame_out
    generalize View.canon (Val := Elt Ideal) _ = X
    exact congrFun (View.ld_unit_lit (S := S1x256x2048) inb_S1x256x2048_S1x256x2048_0_0_0 X (by decide)) z
  clear hR
  canon_tiles x h
  all_goals
    refine Eq.trans (b := k5_pay17 R _ _ x) rfl ?_
    rw [hl]
    exact piece5_6 V c t y x _ _ _ h0 h1 (by omega)

/-- The array of new left statistics. -/
theorem arr5_5 (c : Dev nD) : (dat5 V c).arrAt 5 cfg5.N = Spec.lNew (V c main_arg1) (V c main_arg6) := by
  refine (dat5 V c).arrAt_eq_of_covers 5 _ (by decide +kernel) fun t _ y => ?_
  blk_simp
  rw [after5_5]
  exact point5_5 V c t y

/-- The array of left products. -/
theorem arr5_6 (c : Dev nD) : (dat5 V c).arrAt 6 cfg5.N
    = Spec.prodL (Spec.lNew (V c main_arg1) (V c main_arg6)) (V c main_arg8) (fun i => V c main_v3 (ix3 (i 0) 0 (i 1))) := by
  refine (dat5 V c).arrAt_eq_of_covers 6 _ (by decide +kernel) fun t _ y => ?_
  blk_simp
  rw [after5_6]
  exact point5_6 V c t y

end Cert.KernelIdeal.Value
-- ==== Proof.Reg6.lean ====
module
public import proofs.«01_k».proof.Proof.Gen.KernelIdeal.Frame.Region6
public import proofs.«01_k».proof.Proof.Spec
public import Idealize.ShloMosaic.Lib.Pipeline.ValueKit
public import Idealize.ShloMosaic.Lib.Pointwise
@[expose] public section
set_option maxRecDepth 16384

/-!
Region 6 of the kernel (right statistics): the array it writes is `Spec.rNew` of the gradient and the old statistics.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

/-- One 256×256 tile: `0.95` times the old tile plus `0.05` times the product of two column tiles of the gradient. -/
theorem tile6 (v0 : Vec Ideal S1x2048x256 .bf16) (v2 : Vec Ideal S1x256x256 .f32) (v6 : Vec Ideal S1x2048x256 .bf16)
    (x : S1x256x256.Idx) :
    k6_pay4 v0 v2 v6 x = Scalar.ofBits (F := Ideal) .f32 0x3F733333#32 * v2 x
      + Scalar.ofBits (F := Ideal) .f32 0x3D4CCCCD#32 * ∑ k : Fin 2048, v0 (ix3 0 k (x 1)) * v6 (ix3 0 k (x 2)) := by
  pointwise [k6_pay4, k6_pay3]

variable (V : (c : Dev nD) → (b : Ref sig .tc) → Buf (Elt Ideal) ((c : Thread nD τ).loc b))

/-- Which block each window takes at a grid point. -/
theorem idx6 : ∀ t : Fin cfg6.N, win6_0.index t = ![t.val / 11, 0, t.val % 11] ∧ win6_1.index t = ![t.val / 11, 0, 0]
      ∧ win6_2.index t = ![t.val / 11, t.val % 11, 0] ∧ win6_3.index t = ![t.val / 11, t.val % 11, 0] :=
  (by decide +kernel : ∀ t : Fin grid6.N, _)

/-- The tile stored at column offset `o` holds the entries of `Spec.rNew` that lie there. -/
theorem piece6 (c : Dev nD) (t : Fin cfg6.N) (y : S1x256x2816.Idx) (x : S1x256x256.Idx) (o : Nat)
    (inb : ∀ a, (![0, 0, o] : Fin 3 → Nat) a + S1x256x256.size a ≤ S1x256x2816.size a)
    (inb' : ∀ a, (![0, 0, o] : Fin 3 → Nat) a + S1x2048x256.size a ≤ S1x2048x2816.size a)
    (h0 : (y 0 : ℕ) = x 0) (h1 : (y 1 : ℕ) = x 1) (h2 : (y 2 : ℕ) = o + x 2) :
    k6_pay4 (F := Ideal) (View.ld (iblk6 V c 0 t) r6_0)
        (View.ld (iblk6 V c 2 t) (Rect.unit (s := S1x256x2816) ![0, 0, o] S1x256x256.size inb))
        (View.ld (iblk6 V c 1 t) (Rect.unit (s := S1x2048x2816) ![0, 0, o] S1x2048x256.size inb')) x
      = Spec.rNew (V c main_arg1) (V c main_arg7) ((win6_3.blk t).view.emb y) := by
  rw [tile6]
  blk_point [iblk6, idx6 t, Spec.rNew]

/-- What one grid point leaves in its block. -/
theorem point6 (c : Dev nD) (t : Fin cfg6.N) (y : S1x256x2816.Idx) :
    out6_3 (iblk6 V c 0 t) (iblk6 V c 1 t) (iblk6 V c 2 t) y
      = Spec.rNew (V c main_arg1) (V c main_arg7) ((win6_3.blk t).view.emb y) := by
  canon_tiles x h
  all_goals
    refine Eq.trans (b := k6_pay4 _ _ _ x) rfl ?_
    exact piece6 V c t y x _ _ _ h0 h1 (by omega)

/-- The array of new right statistics. -/
theorem arr6 (c : Dev nD) : (dat6 V c).arrAt 3 cfg6.N = Spec.rNew (V c main_arg1) (V c main_arg7) := by
  refine (dat6 V c).arrAt_eq_of_covers 3 _ (by decide +kernel) fun t _ y => ?_
  blk_simp
  rw [after6_3]
  exact point6 V c t y

end Cert.KernelIdeal.Value
-- ==== Proof.Reg7.lean ====
module
public import proofs.«01_k».proof.Proof.Gen.KernelIdeal.Frame.Region7
public import proofs.«01_k».proof.Proof.Spec
public import Idealize.ShloMosaic.Lib.Pipeline.ValueKit
public import Idealize.ShloMosaic.Lib.Pointwise
@[expose] public section
set_option maxRecDepth 16384

/-!
Region 7 of the kernel (right product): the array it writes is `Spec.prodR` of the new right statistics.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

/-- One 256×256 tile: rows of the statistics times columns of the basis, columns scaled. -/
theorem tile7 (v0 : Vec Ideal S1x256x2816 .f32) (v3 : Vec Ideal S1x2816x256 .i8) (v7 : Vec Ideal S1x1x256 .f32)
    (x : S1x256x256.Idx) :
    k7_pay3 v0 v3 v7 x = (∑ k : Fin 2816, v0 (ix3 0 (x 1) k) * FloatOps.sitofp (F := Ideal) .bf16 (v3 (ix3 0 k (x 2))))
      * v7 (ix3 0 0 (x 2)) := by
  pointwise [k7_pay3, k7_pay2]

variable (V : (c : Dev nD) → (b : Ref sig .tc) → Buf (Elt Ideal) ((c : Thread nD τ).loc b))

/-- Which block each window takes at a grid point. -/
theorem idx7 : ∀ t : Fin cfg7.N, win7_0.index t = ![t.val / 11, t.val % 11, 0] ∧ win7_1.index t = ![t.val / 11, 0, 0]
      ∧ win7_2.index t = ![t.val / 11, 0, 0] ∧ win7_3.index t = ![t.val / 11, t.val % 11, 0] :=
  (by decide +kernel : ∀ t : Fin grid7.N, _)

/-- The tile stored at column offset `o` holds the entries of `Spec.prodR` that lie there. -/
theorem piece7 (c : Dev nD) (t : Fin cfg7.N) (y : S1x256x2816.Idx) (x : S1x256x256.Idx) (o : Nat)
    (inb : ∀ a, (![0, 0, o] : Fin 3 → Nat) a + S1x2816x256.size a ≤ S1x2816x2816.size a)
    (inb' : ∀ a, (![0, 0, o] : Fin 3 → Nat) a + S1x1x256.size a ≤ S1x1x2816.size a)
    (h0 : (y 0 : ℕ) = x 0) (h1 : (y 1 : ℕ) = x 1) (h2 : (y 2 : ℕ) = o + x 2) :
    k7_pay3 (F := Ideal) (View.ld (iblk7 V c 0 t) r7_0)
        (View.ld (iblk7 V c 1 t) (Rect.unit (s := S1x2816x2816) ![0, 0, o] S1x2816x256.size inb))
        (View.ld (iblk7 V c 2 t) (Rect.unit (s := S1x1x2816) ![0, 0, o] S1x1x256.size inb')) x
      = Spec.prodR (V c main_v9) (V c main_arg10) (fun i => V c main_v4 (ix3 (i 0) 0 (i 1))) ((win7_3.blk t).view.emb y) := by
  rw [tile7]
  blk_point [iblk7, idx7 t, Spec.prodR]

/-- What one grid point leaves in its block. -/
theorem point7 (c : Dev nD) (t : Fin cfg7.N) (y : S1x256x2816.Idx) :
    out7_3 (iblk7 V c 0 t) (iblk7 V c 1 t) (iblk7 V c 2 t) y
      = Spec.prodR (V c main_v9) (V c main_arg10) (fun i => V c main_v4 (ix3 (i 0) 0 (i 1))) ((win7_3.blk t).view.emb y) := by
  canon_tiles x h
  all_goals
    refine Eq.trans (b := k7_pay3 (View.ld (iblk7 V c 0 t) r7_0) _ _ x) rfl ?_
    exact piece7 V c t y x _ _ _ h0 h1 (by omega)

/-- The array of right products. -/
theorem arr7 (c : Dev nD) : (dat7 V c).arrAt 3 cfg7.N
    = Spec.prodR (V c main_v9) (V c main_arg10) (fun i => V c main_v4 (ix3 (i 0) 0 (i 1))) := by
  refine (dat7 V c).arrAt_eq_of_covers 3 _ (by decide +kernel) fun t _ y => ?_
  blk_simp
  rw [after7_3]
  exact point7 V c t y

end Cert.KernelIdeal.Value
-- ==== Proof.KernelVal.lean ====
module
public import proofs.«01_k».proof.Proof.Run
public import proofs.«01_k».proof.Proof.All
public import proofs.«01_k».proof.Proof.Reg0
public import proofs.«01_k».proof.Proof.Reg1
public import proofs.«01_k».proof.Proof.Reg2
public import proofs.«01_k».proof.Proof.Reg3
public import proofs.«01_k».proof.Proof.Reg4
public import proofs.«01_k».proof.Proof.Reg5
public import proofs.«01_k».proof.Proof.Reg6
public import proofs.«01_k».proof.Proof.Reg7
public import Idealize.ShloMosaic.Lib.Pipeline.ValueKit
public import Idealize.ShloMosaic.Lib.Pointwise
@[expose] public section
set_option maxRecDepth 16384

/-!
What the kernel leaves in each of its ten results, of the arrays it is given: its passes' arrays, put together.
-/

noncomputable section

namespace Cert.KernelIdeal.Value
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- The arrays a run of the kernel is given. -/
def args : Spec.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16)⟩

/-! ## The scales, laid out for the passes -/

/-- What the first stretch between passes computes. -/
theorem col (W : Valuation τ sig (Elt Ideal)) : StableHlo.after hostOps1 W (Proc.devRef .tc main_v1)
    = broadcastInDim S6x2048x1 ![0, 1] bcast_S6x2048_S6x2048x1_0_1 (W (Proc.devRef .tc main_arg9)) := rfl

/-- What the second stretch computes first. -/
theorem rowL (W : Valuation τ sig (Elt Ideal)) : StableHlo.after hostOps2 W (Proc.devRef .tc main_v3)
    = broadcastInDim S6x1x2048 ![0, 2] bcast_S6x2048_S6x1x2048_0_2 (W (Proc.devRef .tc main_arg9)) := rfl

/-- What the second stretch computes next. -/
theorem rowR (W : Valuation τ sig (Elt Ideal)) : StableHlo.after hostOps2 W (Proc.devRef .tc main_v4)
    = broadcastInDim S6x1x2816 ![0, 2] bcast_S6x2816_S6x1x2816_0_2 (W (Proc.devRef .tc main_arg11)) := rfl

/-- A column read at an entry. -/
theorem col_at (x : FVec Ideal S6x2048 .f32) (i : S6x2048.Idx) :
    broadcastInDim S6x2048x1 ![0, 1] bcast_S6x2048_S6x2048x1_0_1 x (ix3 (i 0) (i 1) 0) = x i := by
  pointwise

/-- A row read at an entry. -/
theorem rowL_at (x : FVec Ideal S6x2048 .f32) (i : S6x2048.Idx) :
    broadcastInDim S6x1x2048 ![0, 2] bcast_S6x2048_S6x1x2048_0_2 x (ix3 (i 0) 0 (i 1)) = x i := by
  pointwise

/-- A row read at an entry. -/
theorem rowR_at (x : FVec Ideal S6x2816 .f32) (i : S6x2816.Idx) :
    broadcastInDim S6x1x2816 ![0, 2] bcast_S6x2816_S6x1x2816_0_2 x (ix3 (i 0) 0 (i 1)) = x i := by
  pointwise

/-- The left basis' scales as a column. -/
theorem v1_at2 : (fun i : Spec.S6x2048.Idx => V2 m ρ c main_v1 (ix3 (i 0) (i 1) 0)) = (args m c).sl := by
  have h : V2 m ρ c main_v1 = broadcastInDim S6x2048x1 ![0, 1] bcast_S6x2048_S6x2048x1_0_1 (args m c).sl :=
    (col (W1 m ρ c)).trans (congrArg _ (W1_args m ρ c main_arg9 (by decide)))
  rw [h]
  exact funext fun i => col_at _ i

/-- The left basis' scales as a row. -/
theorem v3_at4 : V4 m ρ c main_v3 = broadcastInDim S6x1x2048 ![0, 2] bcast_S6x2048_S6x1x2048_0_2 (args m c).sl :=
  (rowL (W3 m ρ c)).trans (congrArg _ (W3_args m ρ c main_arg9 (by decide)))

/-- The right basis' scales as a row. -/
theorem v4_at4 : V4 m ρ c main_v4 = broadcastInDim S6x1x2816 ![0, 2] bcast_S6x2816_S6x1x2816_0_2 (args m c).sr :=
  (rowR (W3 m ρ c)).trans (congrArg _ (W3_args m ρ c main_arg11 (by decide)))

/-- The scales' row, as a later pass finds it. -/
theorem v4_row4 : (fun i : Spec.S6x2816.Idx => V4 m ρ c main_v4 (ix3 (i 0) 0 (i 1))) = (args m c).sr := by
  rw [show V4 m ρ c main_v4 = _ from v4_at4 m ρ c]
  exact funext fun i => rowR_at _ i

/-- The scales' row, as a later pass finds it. -/
theorem v3_row5 : (fun i : Spec.S6x2048.Idx => V5 m ρ c main_v3 (ix3 (i 0) 0 (i 1))) = (args m c).sl := by
  rw [show V5 m ρ c main_v3 = _ from (W5_of m ρ c main_v3 (by decide +kernel)).trans (v3_at4 m ρ c)]
  exact funext fun i => rowL_at _ i

/-- The scales' row, as a later pass finds it. -/
theorem v4_row6 : (fun i : Spec.S6x2816.Idx => V6 m ρ c main_v4 (ix3 (i 0) 0 (i 1))) = (args m c).sr := by
  rw [show V6 m ρ c main_v4 = _ from (W6_of m ρ c main_v4 (by decide +kernel)).trans ((W5_of m ρ c main_v4 (by decide +kernel)).trans (v4_at4 m ρ c))]
  exact funext fun i => rowR_at _ i

/-- The scales' row, as a later pass finds it. -/
theorem v3_row7 : (fun i : Spec.S6x2048.Idx => V7 m ρ c main_v3 (ix3 (i 0) 0 (i 1))) = (args m c).sl := by
  rw [show V7 m ρ c main_v3 = _ from (W7_of m ρ c main_v3 (by decide +kernel)).trans ((W6_of m ρ c main_v3 (by decide +kernel)).trans ((W5_of m ρ c main_v3 (by decide +kernel)).trans (v3_at4 m ρ c)))]
  exact funext fun i => rowL_at _ i

/-- The scales' row, as a later pass finds it. -/
theorem v4_row9 : (fun i : Spec.S6x2816.Idx => V9 m ρ c main_v4 (ix3 (i 0) 0 (i 1))) = (args m c).sr := by
  rw [show V9 m ρ c main_v4 = _ from (W9_of m ρ c main_v4 (by decide +kernel)).trans ((W8_of m ρ c main_v4 (by decide +kernel)).trans ((W7_of m ρ c main_v4 (by decide +kernel)).trans ((W6_of m ρ c main_v4 (by decide +kernel)).trans ((W5_of m ρ c main_v4 (by decide +kernel)).trans (v4_at4 m ρ c)))))]
  exact funext fun i => rowR_at _ i

/-! ## The passes, in order -/

/-- The momentum's codes. -/
theorem v0_0 : V1 m ρ c main_v0_0 = (args m c).mc' := by
  refine (W1_arr m ρ c 3).trans ((arr0_3 (V0 m ρ) c).trans ?_)
  rfl

/-- The momentum's scales. -/
theorem v0_1 : V1 m ρ c main_v0_1 = (args m c).ms' := by
  refine (W1_arr m ρ c 4).trans ((arr0_4 (V0 m ρ) c).trans ?_)
  rfl

/-- The momentum. -/
theorem v0_2 : V1 m ρ c main_v0_2 = (args m c).m := by
  refine (W1_arr m ρ c 5).trans ((arr0_5 (V0 m ρ) c).trans ?_)
  rfl

/-- The left-rotated gradient. -/
theorem v2_0 : V3 m ρ c main_v2_0 = Spec.rotL (args m c).ql (args m c).sl (args m c).g := by
  refine (W3_arr m ρ c 4).trans ((arr1_4 (V2 m ρ) c).trans ?_)
  rw [(show V2 m ρ c main_arg8 = (args m c).ql from W2_args m ρ c main_arg8 (by decide)),
    v1_at2,
    (show V2 m ρ c main_arg1 = (args m c).g from W2_args m ρ c main_arg1 (by decide))]

/-- The left-rotated momentum. -/
theorem v2_1 : V3 m ρ c main_v2_1 = Spec.rotL (args m c).ql (args m c).sl (args m c).m := by
  refine (W3_arr m ρ c 5).trans ((arr1_5 (V2 m ρ) c).trans ?_)
  rw [(show V2 m ρ c main_arg8 = (args m c).ql from W2_args m ρ c main_arg8 (by decide)),
    v1_at2,
    (show V2 m ρ c main_v0_2 = (args m c).m from (W2_of m ρ c main_v0_2 (by decide +kernel)).trans (v0_2 m ρ c))]

/-- The rotated gradient. -/
theorem gr_at : gr2 (V4 m ρ) c = (args m c).gr := by
  unfold gr2
  rw [(show V4 m ρ c main_v2_0 = _ from (W4_of m ρ c main_v2_0 (by decide +kernel)).trans (v2_0 m ρ c)), (show V4 m ρ c main_arg10 = (args m c).qr from W4_args m ρ c main_arg10 (by decide)), v4_row4]
  rfl

/-- The rotated momentum. -/
theorem mr_at : mr2 (V4 m ρ) c = (args m c).mr := by
  unfold mr2
  rw [(show V4 m ρ c main_v2_1 = _ from (W4_of m ρ c main_v2_1 (by decide +kernel)).trans (v2_1 m ρ c)), (show V4 m ρ c main_arg10 = (args m c).qr from W4_args m ρ c main_arg10 (by decide)), v4_row4]
  rfl

/-- The new second moment. -/
theorem vn_at : vn2 (V4 m ρ) c = (args m c).v := by
  unfold vn2
  rw [gr_at, (show V4 m ρ c main_arg4 = (args m c).vc from W4_args m ρ c main_arg4 (by decide)), (show V4 m ρ c main_arg5 = (args m c).vs from W4_args m ρ c main_arg5 (by decide))]
  rfl

/-- The step in the two bases. -/
theorem v5_0 : V5 m ρ c main_v5_0 = Spec.upd (args m c).mr (args m c).v (args m c).c1 (args m c).c2 (args m c).eps := by
  refine (W5_arr m ρ c 9).trans ((arr2_9 (V4 m ρ) c).trans ?_)
  rw [mr_at,
    vn_at,
    (show V4 m ρ c main_arg12 = (args m c).c1 from W4_args m ρ c main_arg12 (by decide)),
    (show V4 m ρ c main_arg13 = (args m c).c2 from W4_args m ρ c main_arg13 (by decide)),
    (show V4 m ρ c main_arg14 = (args m c).eps from W4_args m ρ c main_arg14 (by decide))]

/-- The second moment's codes. -/
theorem v5_1 : V5 m ρ c main_v5_1 = (args m c).vc' := by
  refine (W5_arr m ρ c 10).trans ((arr2_10 (V4 m ρ) c).trans ?_)
  rw [vn_at]
  rfl

/-- The second moment's scales. -/
theorem v5_2 : V5 m ρ c main_v5_2 = (args m c).vs' := by
  refine (W5_arr m ρ c 11).trans ((arr2_11 (V4 m ρ) c).trans ?_)
  rw [vn_at]
  rfl

/-- The step, rotated back from the left. -/
theorem v6 : V6 m ρ c main_v6 = (args m c).p := by
  refine (W6_arr m ρ c 3).trans ((arr3 (V5 m ρ) c).trans ?_)
  rw [(show V5 m ρ c main_arg8 = (args m c).ql from W5_args m ρ c main_arg8 (by decide)),
    v3_row5,
    v5_0]
  rfl

/-- The step. -/
theorem v7_1 : V7 m ρ c main_v7_1 = (args m c).u := by
  refine (W7_arr m ρ c 7).trans ((arr4_7 (V6 m ρ) c).trans ?_)
  rw [v6,
    (show V6 m ρ c main_arg10 = (args m c).qr from W6_args m ρ c main_arg10 (by decide)),
    v4_row6]
  rfl

/-- The new weights. -/
theorem v7_0 : V7 m ρ c main_v7_0 = (args m c).w' := by
  refine (W7_arr m ρ c 6).trans ((arr4_6 (V6 m ρ) c).trans ?_)
  rw [v6,
    (show V6 m ρ c main_arg10 = (args m c).qr from W6_args m ρ c main_arg10 (by decide)),
    v4_row6,
    (show V6 m ρ c main_arg0 = (args m c).w from W6_args m ρ c main_arg0 (by decide)),
    (show V6 m ρ c main_arg15 = (args m c).lr from W6_args m ρ c main_arg15 (by decide)),
    (show V6 m ρ c main_arg16 = (args m c).wd from W6_args m ρ c main_arg16 (by decide))]
  rfl

/-- The new left statistics. -/
theorem v8_0 : V8 m ρ c main_v8_0 = (args m c).l' := by
  refine (W8_arr m ρ c 5).trans ((arr5_5 (V7 m ρ) c).trans ?_)
  rw [(show V7 m ρ c main_arg1 = (args m c).g from W7_args m ρ c main_arg1 (by decide)),
    (show V7 m ρ c main_arg6 = (args m c).l from W7_args m ρ c main_arg6 (by decide))]
  rfl

/-- The left product. -/
theorem v8_1 : V8 m ρ c main_v8_1 = (args m c).pl := by
  refine (W8_arr m ρ c 6).trans ((arr5_6 (V7 m ρ) c).trans ?_)
  rw [(show V7 m ρ c main_arg1 = (args m c).g from W7_args m ρ c main_arg1 (by decide)),
    (show V7 m ρ c main_arg6 = (args m c).l from W7_args m ρ c main_arg6 (by decide)),
    (show V7 m ρ c main_arg8 = (args m c).ql from W7_args m ρ c main_arg8 (by decide)),
    v3_row7]
  rfl

/-- The new right statistics. -/
theorem v9 : V9 m ρ c main_v9 = (args m c).r' := by
  refine (W9_arr m ρ c 3).trans ((arr6 (V8 m ρ) c).trans ?_)
  rw [(show V8 m ρ c main_arg1 = (args m c).g from W8_args m ρ c main_arg1 (by decide)),
    (show V8 m ρ c main_arg7 = (args m c).r from W8_args m ρ c main_arg7 (by decide))]
  rfl

/-- The right product. -/
theorem v10 : V10 m ρ c main_v10 = (args m c).pr := by
  refine (W10_arr m ρ c 3).trans ((arr7 (V9 m ρ) c).trans ?_)
  rw [v9,
    (show V9 m ρ c main_arg10 = (args m c).qr from W9_args m ρ c main_arg10 (by decide)),
    v4_row9]
  rfl

/-! ## The results after the last pass -/

/-- A result at the end: what its pass left, no later pass writing it. -/
theorem end_v7_0 : W10 m ρ c (Proc.devRef .tc main_v7_0) = (args m c).w' :=
  (W10_of m ρ c main_v7_0 (by decide +kernel)).trans ((W9_of m ρ c main_v7_0 (by decide +kernel)).trans ((W8_of m ρ c main_v7_0 (by decide +kernel)).trans (v7_0 m ρ c)))

/-- A result at the end: what its pass left, no later pass writing it. -/
theorem end_v7_1 : W10 m ρ c (Proc.devRef .tc main_v7_1) = (args m c).u :=
  (W10_of m ρ c main_v7_1 (by decide +kernel)).trans ((W9_of m ρ c main_v7_1 (by decide +kernel)).trans ((W8_of m ρ c main_v7_1 (by decide +kernel)).trans (v7_1 m ρ c)))

/-- A result at the end: what its pass left, no later pass writing it. -/
theorem end_v8_0 : W10 m ρ c (Proc.devRef .tc main_v8_0) = (args m c).l' :=
  (W10_of m ρ c main_v8_0 (by decide +kernel)).trans ((W9_of m ρ c main_v8_0 (by decide +kernel)).trans (v8_0 m ρ c))

/-- A result at the end: what its pass left, no later pass writing it. -/
theorem end_v9 : W10 m ρ c (Proc.devRef .tc main_v9) = (args m c).r' :=
  (W10_of m ρ c main_v9 (by decide +kernel)).trans (v9 m ρ c)

/-- A result at the end: what its pass left, no later pass writing it. -/
theorem end_v8_1 : W10 m ρ c (Proc.devRef .tc main_v8_1) = (args m c).pl :=
  (W10_of m ρ c main_v8_1 (by decide +kernel)).trans ((W9_of m ρ c main_v8_1 (by decide +kernel)).trans (v8_1 m ρ c))

/-- A result at the end: what its pass left, no later pass writing it. -/
theorem end_v10 : W10 m ρ c (Proc.devRef .tc main_v10) = (args m c).pr :=
  v10 m ρ c

/-- A result at the end: what its pass left, no later pass writing it. -/
theorem end_v0_0 : W10 m ρ c (Proc.devRef .tc main_v0_0) = (args m c).mc' :=
  (W10_of m ρ c main_v0_0 (by decide +kernel)).trans ((W9_of m ρ c main_v0_0 (by decide +kernel)).trans ((W8_of m ρ c main_v0_0 (by decide +kernel)).trans ((W7_of m ρ c main_v0_0 (by decide +kernel)).trans ((W6_of m ρ c main_v0_0 (by decide +kernel)).trans ((W5_of m ρ c main_v0_0 (by decide +kernel)).trans ((W4_of m ρ c main_v0_0 (by decide +kernel)).trans ((W3_of m ρ c main_v0_0 (by decide +kernel)).trans ((W2_of m ρ c main_v0_0 (by decide +kernel)).trans (v0_0 m ρ c)))))))))

/-- A result at the end: what its pass left, no later pass writing it. -/
theorem end_v0_1 : W10 m ρ c (Proc.devRef .tc main_v0_1) = (args m c).ms' :=
  (W10_of m ρ c main_v0_1 (by decide +kernel)).trans ((W9_of m ρ c main_v0_1 (by decide +kernel)).trans ((W8_of m ρ c main_v0_1 (by decide +kernel)).trans ((W7_of m ρ c main_v0_1 (by decide +kernel)).trans ((W6_of m ρ c main_v0_1 (by decide +kernel)).trans ((W5_of m ρ c main_v0_1 (by decide +kernel)).trans ((W4_of m ρ c main_v0_1 (by decide +kernel)).trans ((W3_of m ρ c main_v0_1 (by decide +kernel)).trans ((W2_of m ρ c main_v0_1 (by decide +kernel)).trans (v0_1 m ρ c)))))))))

/-- A result at the end: what its pass left, no later pass writing it. -/
theorem end_v5_1 : W10 m ρ c (Proc.devRef .tc main_v5_1) = (args m c).vc' :=
  (W10_of m ρ c main_v5_1 (by decide +kernel)).trans ((W9_of m ρ c main_v5_1 (by decide +kernel)).trans ((W8_of m ρ c main_v5_1 (by decide +kernel)).trans ((W7_of m ρ c main_v5_1 (by decide +kernel)).trans ((W6_of m ρ c main_v5_1 (by decide +kernel)).trans (v5_1 m ρ c)))))

/-- A result at the end: what its pass left, no later pass writing it. -/
theorem end_v5_2 : W10 m ρ c (Proc.devRef .tc main_v5_2) = (args m c).vs' :=
  (W10_of m ρ c main_v5_2 (by decide +kernel)).trans ((W9_of m ρ c main_v5_2 (by decide +kernel)).trans ((W8_of m ρ c main_v5_2 (by decide +kernel)).trans ((W7_of m ρ c main_v5_2 (by decide +kernel)).trans ((W6_of m ρ c main_v5_2 (by decide +kernel)).trans (v5_2 m ρ c)))))

omit c in
set_option maxHeartbeats 4000000 in
/-- Every execution of the kernel ends, its results at these values and its arguments unchanged. -/
theorem run : θ_run defs (onTc (τ := τ) (main (F := Ideal))) ⟨m, fun _ => 0, ρ⟩ (fun r => ∀ c : Dev nD,
      r.2.mem ((c.tc : Thread nD τ).loc main_v7_0) = (args m c).w'
      ∧ r.2.mem ((c.tc : Thread nD τ).loc main_v7_1) = (args m c).u
      ∧ r.2.mem ((c.tc : Thread nD τ).loc main_v8_0) = (args m c).l'
      ∧ r.2.mem ((c.tc : Thread nD τ).loc main_v9) = (args m c).r'
      ∧ r.2.mem ((c.tc : Thread nD τ).loc main_v8_1) = (args m c).pl
      ∧ r.2.mem ((c.tc : Thread nD τ).loc main_v10) = (args m c).pr
      ∧ r.2.mem ((c.tc : Thread nD τ).loc main_v0_0) = (args m c).mc'
      ∧ r.2.mem ((c.tc : Thread nD τ).loc main_v0_1) = (args m c).ms'
      ∧ r.2.mem ((c.tc : Thread nD τ).loc main_v5_1) = (args m c).vc'
      ∧ r.2.mem ((c.tc : Thread nD τ).loc main_v5_2) = (args m c).vs'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_v7_0 (by decide))).trans (end_v7_0 m ρ c),
    (h c _ (mem_uc main_v7_1 (by decide))).trans (end_v7_1 m ρ c),
    (h c _ (mem_uc main_v8_0 (by decide))).trans (end_v8_0 m ρ c),
    (h c _ (mem_uc main_v9 (by decide))).trans (end_v9 m ρ c),
    (h c _ (mem_uc main_v8_1 (by decide))).trans (end_v8_1 m ρ c),
    (h c _ (mem_uc main_v10 (by decide))).trans (end_v10 m ρ c),
    (h c _ (mem_uc main_v0_0 (by decide))).trans (end_v0_0 m ρ c),
    (h c _ (mem_uc main_v0_1 (by decide))).trans (end_v0_1 m ρ c),
    (h c _ (mem_uc main_v5_1 (by decide))).trans (end_v5_1 m ρ c),
    (h c _ (mem_uc main_v5_2 (by decide))).trans (end_v5_2 m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c),
    (h c _ (mem_uc main_arg15 (by decide))).trans (W10_main_arg15 m ρ c),
    (h c _ (mem_uc main_arg16 (by decide))).trans (W10_main_arg16 m ρ c)⟩) (run_fold m ρ)

end Cert.KernelIdeal.Value
-- ==== Proof.RefLines.lean ====
module
public import proofs.«01_k».proof.Proof.Gen.ReferenceIdeal.Frame
public import proofs.«01_k».proof.Proof.Spec
public import Idealize.ShloMosaic.Lib.Pipeline.ValueKit
public import Idealize.ShloMosaic.Lib.Pointwise
@[expose] public section
set_option maxRecDepth 16384

/-!
What each line of the reference computes, read at one entry.
-/

noncomputable section

namespace Cert.ReferenceIdeal.Value
open Idealize.ShloMosaic Idealize.ShloMosaic.TcCoe Idealize.SL.Sem
open Idealize.ShloMosaic.Pipeline (Dat)
open Cert.ReferenceIdeal Cert.ReferenceIdeal.Gen

/-- The new momentum. -/
theorem mom_eq (g : Vec Ideal S6x2048x2816 .bf16) (mc : Vec Ideal S6x2048x2816 .i8) (ms : Vec Ideal S6x2048x22 .f32) :
    k0_pay5 (F := Ideal) g mc ms = Spec.mom g mc ms := by
  funext j
  pointwise [k0_pay5, Spec.mom]

/-- The largest absolute value in a block, as the reference's lines compute it. -/
def absMax (m : FVec Ideal S6x2048x2816 .f32) : FVec Ideal S6x2048x22 .f32 :=
  have v21 : FVec Ideal S6x2048x22x128 .f32 := shapeCast S6x2048x22x128 m shapeCasts_S6x2048x2816_S6x2048x22x128
  have v22 : FVec Ideal S6x2048x22x128 .f32 := absf v21
  multiReduction .maximumf [3] S6x2048x22 v22 0xFF800000#32 reduces_S6x2048x22x128_S6x2048x22 (.inl rfl) rfl

/-- The scale made of a largest absolute value, as the reference's lines compute it. -/
def pick (v23 : FVec Ideal S6x2048x22 .f32) : FVec Ideal S6x2048x22 .f32 :=
  have cst_20 : Ideal .f32 := Scalar.ofBits .f32 0x00000000#32
  have v24 : FVec Ideal S6x2048x22 .f32 := broadcast S6x2048x22 cst_20
  have v25 : IVec S6x2048x22 1 := cmpf .oeq v23 v24
  have cst_21 : Ideal .f32 := Scalar.ofBits .f32 0x42FE0000#32
  have v26 : FVec Ideal S6x2048x22 .f32 := broadcast S6x2048x22 cst_21
  have v27 : FVec Ideal S6x2048x22 .f32 := divf v23 v26
  have cst_22 : Ideal .f32 := Scalar.ofBits .f32 0x3F800000#32
  have v28 : FVec Ideal S6x2048x22 .f32 := broadcast S6x2048x22 cst_22
  select v25 v28 v27

/-- The largest absolute value in a block. -/
theorem absMax_eq (m : FVec Ideal S6x2048x2816 .f32) : absMax m = Spec.amax m := by
  funext j
  pointwise [absMax, Spec.amax]

/-- The scale made of a largest absolute value. -/
theorem pick_apply (v : FVec Ideal S6x2048x22 .f32) (j : S6x2048x22.Idx) :
    pick v j = if v j = 0 then 1 else Ideal.div (v j) (Ideal.ofBits .f32 0x42FE0000#32) := by
  pointwise [pick]

/-- The scales of the blocks of the momentum. -/
theorem mScale_eq (g : Vec Ideal S6x2048x2816 .bf16) (mc : Vec Ideal S6x2048x2816 .i8) (ms : Vec Ideal S6x2048x22 .f32) :
    k0_pay7 (F := Ideal) g mc ms = Spec.mScale (Spec.mom g mc ms) := by
  have h : k0_pay7 (F := Ideal) g mc ms = pick (absMax (k0_pay5 g mc ms)) := rfl
  rw [h, mom_eq, absMax_eq]
  generalize Spec.mom g mc ms = m
  funext j
  rw [pick_apply]
  rfl

/-- The codes of the momentum. -/
theorem mCode_eq (g : Vec Ideal S6x2048x2816 .bf16) (mc : Vec Ideal S6x2048x2816 .i8) (ms : Vec Ideal S6x2048x22 .f32) :
    k0_pay9 (F := Ideal) (k0_pay8 g mc ms) (Scalar.ofBits .f32 0xC2FE0000#32) = Spec.mCode (Spec.mom g mc ms) := by
  unfold k0_pay9 k0_pay8 k0_pay6
  rw [mScale_eq, mom_eq]
  generalize Spec.mom g mc ms = m
  generalize hs : Spec.mScale m = s
  funext j
  pointwise [Spec.mCode]
  rw [hs]

/-- Rotation of the gradient. -/
theorem rot_eq (x0 : Vec Ideal S6x2048x2816 .bf16) (x5 : Vec Ideal S6x2048x2048 .i8) (x7 : Vec Ideal S6x2816x2816 .i8)
    (x6 : Vec Ideal S6x2048 .f32) (x8 : Vec Ideal S6x2816 .f32) :
    k0_pay10 (F := Ideal) x0 (k0_pay3 x5) (k0_pay4 x7) x6 x8 = Spec.rotR (Spec.rotL x5 x6 x0) x7 x8 := by
  funext j
  pointwise [k0_pay10, k0_pay3, k0_pay4, Spec.rotR, Spec.rotL]

/-- Rotation of the momentum. -/
theorem rotm_eq (m : FVec Ideal S6x2048x2816 .f32) (x5 : Vec Ideal S6x2048x2048 .i8) (x7 : Vec Ideal S6x2816x2816 .i8)
    (x6 : Vec Ideal S6x2048 .f32) (x8 : Vec Ideal S6x2816 .f32) :
    k0_pay11 (F := Ideal) (k0_pay3 x5) (k0_pay4 x7) x6 x8 m = Spec.rotR (Spec.rotL x5 x6 m) x7 x8 := by
  funext j
  pointwise [k0_pay11, k0_pay3, k0_pay4, Spec.rotR, Spec.rotL]

/-- The new second moment. -/
theorem vNew_eq (r : FVec Ideal S6x2048x2816 .f32) (vc : Vec Ideal S6x2048x2816 .i8) (vs : Vec Ideal S6x2048x22 .f32) :
    k0_pay14 (F := Ideal) r (k0_pay12 vc vs) k0_pay13 = Spec.vNew r vc vs := by
  funext j
  pointwise [k0_pay14, k0_pay12, k0_pay13, Spec.vNew]

/-- The new left statistics. -/
theorem lNew_eq (g : Vec Ideal S6x2048x2816 .bf16) (l : Vec Ideal S6x2048x2048 .f32) :
    k0_pay22 (F := Ideal) g l = Spec.lNew g l := by
  funext j
  pointwise [k0_pay22, Spec.lNew]

/-- The new right statistics. -/
theorem rNew_eq (g : Vec Ideal S6x2048x2816 .bf16) (r : Vec Ideal S6x2816x2816 .f32) :
    k0_pay23 (F := Ideal) g r = Spec.rNew g r := by
  funext j
  pointwise [k0_pay23, Spec.rNew]

/-- The left product for the next basis. -/
theorem prodL_eq (l : FVec Ideal S6x2048x2048 .f32) (q : Vec Ideal S6x2048x2048 .i8) (s : Vec Ideal S6x2048 .f32) :
    k0_pay1 (F := Ideal) (k0_pay3 q) s l = Spec.prodL l q s := by
  funext j
  pointwise [k0_pay1, k0_pay3, Spec.prodL]

/-- The right product for the next basis. -/
theorem prodR_eq (r : FVec Ideal S6x2816x2816 .f32) (q : Vec Ideal S6x2816x2816 .i8) (s : Vec Ideal S6x2816 .f32) :
    k0_pay2 (F := Ideal) (k0_pay4 q) s r = Spec.prodR r q s := by
  funext j
  pointwise [k0_pay2, k0_pay4, Spec.prodR]

/-- Rotation of the step back from the right. -/
theorem backR_eq (p : FVec Ideal S6x2048x2816 .f32) (q : Vec Ideal S6x2816x2816 .i8) (s : Vec Ideal S6x2816 .f32) :
    k0_pay20 (F := Ideal) (k0_pay18 (k0_pay4 q) s) p = Spec.backR p q s := by
  funext j
  pointwise [k0_pay20, k0_pay18, k0_pay4, Spec.backR]

/-- The new weights. -/
theorem wNew_eq (a : FVec Ideal S6x2816x2816 .bf16) (p : FVec Ideal S6x2048x2816 .f32) (w : Vec Ideal S6x2048x2816 .f32) (lr wd : Vec Ideal S6 .f32) :
    k0_pay21 (F := Ideal) a p w lr wd w = Spec.wNew w (k0_pay20 a p) lr wd := by
  funext j
  pointwise [k0_pay21, Spec.wNew]

/-- The step, rotated back from the left. -/
theorem backL_eq (q : Vec Ideal S6x2048x2048 .i8) (s : Vec Ideal S6x2048 .f32) (r b c v : FVec Ideal S6x2048x2816 .f32) (m : FVec Ideal S6x2048x2816 .f32)
    (hv : k0_pay14 (F := Ideal) r b c = v) (c1 c2 eps : Vec Ideal S6 .f32) :
    k0_pay19 (F := Ideal) (k0_pay3 q) s r m b c c1 c2 eps = Spec.backL q s (Spec.upd m v c1 c2 eps) := by
  rw [← hv]
  funext j
  pointwise [k0_pay19, k0_pay3, Spec.backL, Spec.upd]

/-- The scales of the blocks of the second moment. -/
theorem vScale_eq (r b c v : FVec Ideal S6x2048x2816 .f32) (hv : k0_pay14 (F := Ideal) r b c = v) :
    k0_pay16 (F := Ideal) r b c = Spec.vScale v := by
  unfold k0_pay16 k0_pay15
  rw [hv]
  funext j
  pointwise [Spec.vScale]

/-- The codes of the second moment. -/
theorem vCode_eq (r b c v : FVec Ideal S6x2048x2816 .f32) (hv : k0_pay14 (F := Ideal) r b c = v) :
    k0_pay17 (F := Ideal) r b c = Spec.vCode v := by
  unfold k0_pay17
  rw [vScale_eq r b c v hv]
  unfold k0_pay15
  rw [hv]
  generalize hs : Spec.vScale v = s
  funext j
  pointwise [Spec.vCode]
  rw [hs]

end Cert.ReferenceIdeal.Value
-- ==== Proof.RefVal.lean ====
module
public import proofs.«01_k».proof.Proof.RefLines
public import proofs.«01_k».proof.Proof.All
public import Idealize.ShloMosaic.Lib.Pipeline.ValueKit
public import Idealize.ShloMosaic.Lib.Pointwise
@[expose] public section
set_option maxRecDepth 16384

/-!
What the reference leaves in each of its ten results, of the arrays it is given.
-/

noncomputable section

namespace Cert.ReferenceIdeal.Value
open Idealize.ShloMosaic Idealize.ShloMosaic.TcCoe Idealize.SL.Sem
open Idealize.ShloMosaic.Pipeline (Dat)
open Cert.ReferenceIdeal Cert.ReferenceIdeal.Gen

/-- A read of a whole array is the array. -/
theorem ld0 {e : EltTy} (X : Vec Ideal S6x2048x2816 e) : View.ld X r0_0 = X := View.ld_unit_lit _ X (by decide)

/-- A read of a whole array is the array. -/
theorem ld1 {e : EltTy} (X : Vec Ideal S6x2048x2048 e) : View.ld X r0_1 = X := View.ld_unit_lit _ X (by decide)

/-- A read of a whole array is the array. -/
theorem ld2 {e : EltTy} (X : Vec Ideal S6x2816x2816 e) : View.ld X r0_2 = X := View.ld_unit_lit _ X (by decide)

/-- A read of a whole array is the array. -/
theorem ld3 {e : EltTy} (X : Vec Ideal S6x2048 e) : View.ld X r0_3 = X := View.ld_unit_lit _ X (by decide)

/-- A read of a whole array is the array. -/
theorem ld4 {e : EltTy} (X : Vec Ideal S6x2816 e) : View.ld X r0_4 = X := View.ld_unit_lit _ X (by decide)

/-- A read of a whole array is the array. -/
theorem ld5 {e : EltTy} (X : Vec Ideal S6x2048x22 e) : View.ld X r0_5 = X := View.ld_unit_lit _ X (by decide)

/-- A read of a whole array is the array. -/
theorem ld6 {e : EltTy} (X : Vec Ideal S6 e) : View.ld X r0_6 = X := View.ld_unit_lit _ X (by decide)

section Lines
variable (a : Spec.Args)

/-- The rotated gradient. -/
theorem gr_line : k0_pay26 (F := Ideal) a.w a.g a.mc a.ms a.vc a.vs a.l a.r a.ql a.sl a.qr a.sr a.c1 a.c2 a.eps a.lr a.wd = a.gr := by
  unfold k0_pay26 k0_pay24 k0_pay25
  simp only [ld0, ld1, ld2, ld3, ld4]
  exact rot_eq a.g a.ql a.qr a.sl a.sr

/-- The new second moment. -/
theorem v_line : k0_pay14 (F := Ideal) (k0_pay26 a.w a.g a.mc a.ms a.vc a.vs a.l a.r a.ql a.sl a.qr a.sr a.c1 a.c2 a.eps a.lr a.wd)
    (k0_pay27 a.w a.g a.mc a.ms a.vc a.vs a.l a.r a.ql a.sl a.qr a.sr a.c1 a.c2 a.eps a.lr a.wd) (k0_pay28 a.w a.g a.mc a.ms a.vc a.vs a.l a.r a.ql a.sl a.qr a.sr a.c1 a.c2 a.eps a.lr a.wd) = a.v := by
  rw [gr_line]
  unfold k0_pay27 k0_pay28
  simp only [ld0, ld5]
  exact vNew_eq a.gr a.vc a.vs

/-- The step, rotated back from the left. -/
theorem p_line : k0_pay30 (F := Ideal) a.w a.g a.mc a.ms a.vc a.vs a.l a.r a.ql a.sl a.qr a.sr a.c1 a.c2 a.eps a.lr a.wd = a.p := by
  unfold k0_pay30
  refine (backL_eq _ _ _ _ _ a.v _ (v_line a) _ _ _).trans ?_
  unfold k0_pay24 k0_pay25
  simp only [ld0, ld1, ld2, ld3, ld4, ld5, ld6]
  rw [mom_eq a.g a.mc a.ms, rotm_eq]
  rfl

/-- The step. -/
theorem u_line : k0_pay20 (F := Ideal) (k0_pay29 a.w a.g a.mc a.ms a.vc a.vs a.l a.r a.ql a.sl a.qr a.sr a.c1 a.c2 a.eps a.lr a.wd) (k0_pay30 a.w a.g a.mc a.ms a.vc a.vs a.l a.r a.ql a.sl a.qr a.sr a.c1 a.c2 a.eps a.lr a.wd) = a.u := by
  rw [p_line]
  unfold k0_pay29 k0_pay25
  simp only [ld2, ld4]
  exact backR_eq a.p a.qr a.sr

/-- The new left statistics. -/
theorem l_line : k0_pay31 (F := Ideal) a.w a.g a.mc a.ms a.vc a.vs a.l a.r a.ql a.sl a.qr a.sr a.c1 a.c2 a.eps a.lr a.wd = a.l' := by
  unfold k0_pay31
  simp only [ld0, ld1]
  exact lNew_eq a.g a.l

/-- The new right statistics. -/
theorem r_line : k0_pay32 (F := Ideal) a.w a.g a.mc a.ms a.vc a.vs a.l a.r a.ql a.sl a.qr a.sr a.c1 a.c2 a.eps a.lr a.wd = a.r' := by
  unfold k0_pay32
  simp only [ld0, ld2]
  exact rNew_eq a.g a.r

end Lines

variable (m : (ℓ : Loc nD τ sig) → Buf (Elt Ideal) ℓ) (c : Dev nD)

/-- The arrays a run of the reference is given. -/
def args : Spec.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16)⟩

/-- Argument 0 as the reference's one grid point sees it: whole. -/
theorem blk_0 : iblk m c 0 t0_0 = (args m c).w := by
  funext j
  unfold iblk
  refine congrArg (m ((c : Thread nD τ).loc main_arg0)) (funext fun a => Fin.ext ?_)
  have h : win0_0.index t0_0 a = 0 := by fin_cases a <;> rfl
  simp [h]

/-- Argument 1 as the reference's one grid point sees it: whole. -/
theorem blk_1 : iblk m c 1 t0_0 = (args m c).g := by
  funext j
  unfold iblk
  refine congrArg (m ((c : Thread nD τ).loc main_arg1)) (funext fun a => Fin.ext ?_)
  have h : win0_1.index t0_0 a = 0 := by fin_cases a <;> rfl
  simp [h]

/-- Argument 2 as the reference's one grid point sees it: whole. -/
theorem blk_2 : iblk m c 2 t0_0 = (args m c).mc := by
  funext j
  unfold iblk
  refine congrArg (m ((c : Thread nD τ).loc main_arg2)) (funext fun a => Fin.ext ?_)
  have h : win0_2.index t0_0 a = 0 := by fin_cases a <;> rfl
  simp [h]

/-- Argument 3 as the reference's one grid point sees it: whole. -/
theorem blk_3 : iblk m c 3 t0_0 = (args m c).ms := by
  funext j
  unfold iblk
  refine congrArg (m ((c : Thread nD τ).loc main_arg3)) (funext fun a => Fin.ext ?_)
  have h : win0_3.index t0_0 a = 0 := by fin_cases a <;> rfl
  simp [h]

/-- Argument 4 as the reference's one grid point sees it: whole. -/
theorem blk_4 : iblk m c 4 t0_0 = (args m c).vc := by
  funext j
  unfold iblk
  refine congrArg (m ((c : Thread nD τ).loc main_arg4)) (funext fun a => Fin.ext ?_)
  have h : win0_4.index t0_0 a = 0 := by fin_cases a <;> rfl
  simp [h]

/-- Argument 5 as the reference's one grid point sees it: whole. -/
theorem blk_5 : iblk m c 5 t0_0 = (args m c).vs := by
  funext j
  unfold iblk
  refine congrArg (m ((c : Thread nD τ).loc main_arg5)) (funext fun a => Fin.ext ?_)
  have h : win0_5.index t0_0 a = 0 := by fin_cases a <;> rfl
  simp [h]

/-- Argument 6 as the reference's one grid point sees it: whole. -/
theorem blk_6 : iblk m c 6 t0_0 = (args m c).l := by
  funext j
  unfold iblk
  refine congrArg (m ((c : Thread nD τ).loc main_arg6)) (funext fun a => Fin.ext ?_)
  have h : win0_6.index t0_0 a = 0 := by fin_cases a <;> rfl
  simp [h]

/-- Argument 7 as the reference's one grid point sees it: whole. -/
theorem blk_7 : iblk m c 7 t0_0 = (args m c).r := by
  funext j
  unfold iblk
  refine congrArg (m ((c : Thread nD τ).loc main_arg7)) (funext fun a => Fin.ext ?_)
  have h : win0_7.index t0_0 a = 0 := by fin_cases a <;> rfl
  simp [h]

/-- Argument 8 as the reference's one grid point sees it: whole. -/
theorem blk_8 : iblk m c 8 t0_0 = (args m c).ql := by
  funext j
  unfold iblk
  refine congrArg (m ((c : Thread nD τ).loc main_arg8)) (funext fun a => Fin.ext ?_)
  have h : win0_8.index t0_0 a = 0 := by fin_cases a <;> rfl
  simp [h]

/-- Argument 9 as the reference's one grid point sees it: whole. -/
theorem blk_9 : iblk m c 9 t0_0 = (args m c).sl := by
  funext j
  unfold iblk
  refine congrArg (m ((c : Thread nD τ).loc main_arg9)) (funext fun a => Fin.ext ?_)
  have h : win0_9.index t0_0 a = 0 := by fin_cases a <;> rfl
  simp [h]

/-- Argument 10 as the reference's one grid point sees it: whole. -/
theorem blk_10 : iblk m c 10 t0_0 = (args m c).qr := by
  funext j
  unfold iblk
  refine congrArg (m ((c : Thread nD τ).loc main_arg10)) (funext fun a => Fin.ext ?_)
  have h : win0_10.index t0_0 a = 0 := by fin_cases a <;> rfl
  simp [h]

/-- Argument 11 as the reference's one grid point sees it: whole. -/
theorem blk_11 : iblk m c 11 t0_0 = (args m c).sr := by
  funext j
  unfold iblk
  refine congrArg (m ((c : Thread nD τ).loc main_arg11)) (funext fun a => Fin.ext ?_)
  have h : win0_11.index t0_0 a = 0 := by fin_cases a <;> rfl
  simp [h]

/-- Argument 12 as the reference's one grid point sees it: whole. -/
theorem blk_12 : iblk m c 12 t0_0 = (args m c).c1 := by
  funext j
  unfold iblk
  refine congrArg (m ((c : Thread nD τ).loc main_arg12)) (funext fun a => Fin.ext ?_)
  have h : win0_12.index t0_0 a = 0 := by fin_cases a <;> rfl
  simp [h]

/-- Argument 13 as the reference's one grid point sees it: whole. -/
theorem blk_13 : iblk m c 13 t0_0 = (args m c).c2 := by
  funext j
  unfold iblk
  refine congrArg (m ((c : Thread nD τ).loc main_arg13)) (funext fun a => Fin.ext ?_)
  have h : win0_13.index t0_0 a = 0 := by fin_cases a <;> rfl
  simp [h]

/-- Argument 14 as the reference's one grid point sees it: whole. -/
theorem blk_14 : iblk m c 14 t0_0 = (args m c).eps := by
  funext j
  unfold iblk
  refine congrArg (m ((c : Thread nD τ).loc main_arg14)) (funext fun a => Fin.ext ?_)
  have h : win0_14.index t0_0 a = 0 := by fin_cases a <;> rfl
  simp [h]

/-- Argument 15 as the reference's one grid point sees it: whole. -/
theorem blk_15 : iblk m c 15 t0_0 = (args m c).lr := by
  funext j
  unfold iblk
  refine congrArg (m ((c : Thread nD τ).loc main_arg15)) (funext fun a => Fin.ext ?_)
  have h : win0_15.index t0_0 a = 0 := by fin_cases a <;> rfl
  simp [h]

/-- Argument 16 as the reference's one grid point sees it: whole. -/
theorem blk_16 : iblk m c 16 t0_0 = (args m c).wd := by
  funext j
  unfold iblk
  refine congrArg (m ((c : Thread nD τ).loc main_arg16)) (funext fun a => Fin.ext ?_)
  have h : win0_16.index t0_0 a = 0 := by fin_cases a <;> rfl
  simp [h]

/-- The new weights. -/
theorem arr_17 : (dats m 0 c).arrAt 17 cfg0.N = (args m c).w' := by
  refine (dats m 0 c).arrAt_eq_of_after_last 17 t0_0 (by decide +kernel) _ fun j => ?_
  blk_simp
  rw [after0_17, blk_0, blk_1, blk_2, blk_3, blk_4, blk_5, blk_6, blk_7, blk_8, blk_9, blk_10, blk_11, blk_12, blk_13, blk_14, blk_15, blk_16]
  generalize args m c = a
  frame_out
  exact congrFun ((wNew_eq _ _ a.w a.lr a.wd).trans (congrArg (fun u => Spec.wNew a.w u a.lr a.wd) (u_line a))) j

/-- The step. -/
theorem arr_18 : (dats m 0 c).arrAt 18 cfg0.N = (args m c).u := by
  refine (dats m 0 c).arrAt_eq_of_after_last 18 t0_0 (by decide +kernel) _ fun j => ?_
  blk_simp
  rw [after0_18, blk_0, blk_1, blk_2, blk_3, blk_4, blk_5, blk_6, blk_7, blk_8, blk_9, blk_10, blk_11, blk_12, blk_13, blk_14, blk_15, blk_16]
  generalize args m c = a
  frame_out
  exact congrFun (u_line a) j

/-- The new left statistics. -/
theorem arr_19 : (dats m 0 c).arrAt 19 cfg0.N = (args m c).l' := by
  refine (dats m 0 c).arrAt_eq_of_after_last 19 t0_0 (by decide +kernel) _ fun j => ?_
  blk_simp
  rw [after0_19, blk_0, blk_1, blk_2, blk_3, blk_4, blk_5, blk_6, blk_7, blk_8, blk_9, blk_10, blk_11, blk_12, blk_13, blk_14, blk_15, blk_16]
  generalize args m c = a
  frame_out
  exact congrFun (l_line a) j

/-- The new right statistics. -/
theorem arr_20 : (dats m 0 c).arrAt 20 cfg0.N = (args m c).r' := by
  refine (dats m 0 c).arrAt_eq_of_after_last 20 t0_0 (by decide +kernel) _ fun j => ?_
  blk_simp
  rw [after0_20, blk_0, blk_1, blk_2, blk_3, blk_4, blk_5, blk_6, blk_7, blk_8, blk_9, blk_10, blk_11, blk_12, blk_13, blk_14, blk_15, blk_16]
  generalize args m c = a
  frame_out
  exact congrFun (r_line a) j

/-- The left product. -/
theorem arr_21 : (dats m 0 c).arrAt 21 cfg0.N = (args m c).pl := by
  refine (dats m 0 c).arrAt_eq_of_after_last 21 t0_0 (by decide +kernel) _ fun j => ?_
  blk_simp
  rw [after0_21, blk_0, blk_1, blk_2, blk_3, blk_4, blk_5, blk_6, blk_7, blk_8, blk_9, blk_10, blk_11, blk_12, blk_13, blk_14, blk_15, blk_16]
  generalize args m c = a
  frame_out
  rw [l_line a]
  unfold k0_pay24
  simp only [ld1]
  exact congrFun (prodL_eq a.l' a.ql a.sl) j

/-- The right product. -/
theorem arr_22 : (dats m 0 c).arrAt 22 cfg0.N = (args m c).pr := by
  refine (dats m 0 c).arrAt_eq_of_after_last 22 t0_0 (by decide +kernel) _ fun j => ?_
  blk_simp
  rw [after0_22, blk_0, blk_1, blk_2, blk_3, blk_4, blk_5, blk_6, blk_7, blk_8, blk_9, blk_10, blk_11, blk_12, blk_13, blk_14, blk_15, blk_16]
  generalize args m c = a
  frame_out
  rw [r_line a]
  unfold k0_pay25
  simp only [ld2]
  exact congrFun (prodR_eq a.r' a.qr a.sr) j

/-- The momentum's codes. -/
theorem arr_23 : (dats m 0 c).arrAt 23 cfg0.N = (args m c).mc' := by
  refine (dats m 0 c).arrAt_eq_of_after_last 23 t0_0 (by decide +kernel) _ fun j => ?_
  blk_simp
  rw [after0_23, blk_0, blk_1, blk_2, blk_3, blk_4, blk_5, blk_6, blk_7, blk_8, blk_9, blk_10, blk_11, blk_12, blk_13, blk_14, blk_15, blk_16]
  generalize args m c = a
  frame_out
  exact congrFun (mCode_eq a.g a.mc a.ms) j

/-- The momentum's scales. -/
theorem arr_24 : (dats m 0 c).arrAt 24 cfg0.N = (args m c).ms' := by
  refine (dats m 0 c).arrAt_eq_of_after_last 24 t0_0 (by decide +kernel) _ fun j => ?_
  blk_simp
  rw [after0_24, blk_0, blk_1, blk_2, blk_3, blk_4, blk_5, blk_6, blk_7, blk_8, blk_9, blk_10, blk_11, blk_12, blk_13, blk_14, blk_15, blk_16]
  generalize args m c = a
  frame_out
  exact congrFun (mScale_eq a.g a.mc a.ms) j

/-- The second moment's codes. -/
theorem arr_25 : (dats m 0 c).arrAt 25 cfg0.N = (args m c).vc' := by
  refine (dats m 0 c).arrAt_eq_of_after_last 25 t0_0 (by decide +kernel) _ fun j => ?_
  blk_simp
  rw [after0_25, blk_0, blk_1, blk_2, blk_3, blk_4, blk_5, blk_6, blk_7, blk_8, blk_9, blk_10, blk_11, blk_12, blk_13, blk_14, blk_15, blk_16]
  generalize args m c = a
  frame_out
  exact congrFun (vCode_eq _ _ _ _ (v_line a)) j

/-- The second moment's scales. -/
theorem arr_26 : (dats m 0 c).arrAt 26 cfg0.N = (args m c).vs' := by
  refine (dats m 0 c).arrAt_eq_of_after_last 26 t0_0 (by decide +kernel) _ fun j => ?_
  blk_simp
  rw [after0_26, blk_0, blk_1, blk_2, blk_3, blk_4, blk_5, blk_6, blk_7, blk_8, blk_9, blk_10, blk_11, blk_12, blk_13, blk_14, blk_15, blk_16]
  generalize args m c = a
  frame_out
  exact congrFun (vScale_eq _ _ _ _ (v_line a)) j

set_option maxHeartbeats 4000000 in
/-- Every execution of the reference ends, its results at these values and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = (args m c).w'
      ∧ r.2.mem ((c.tc : Thread nD τ).loc main_v0_1) = (args m c).u
      ∧ r.2.mem ((c.tc : Thread nD τ).loc main_v0_2) = (args m c).l'
      ∧ r.2.mem ((c.tc : Thread nD τ).loc main_v0_3) = (args m c).r'
      ∧ r.2.mem ((c.tc : Thread nD τ).loc main_v0_4) = (args m c).pl
      ∧ r.2.mem ((c.tc : Thread nD τ).loc main_v0_5) = (args m c).pr
      ∧ r.2.mem ((c.tc : Thread nD τ).loc main_v0_6) = (args m c).mc'
      ∧ r.2.mem ((c.tc : Thread nD τ).loc main_v0_7) = (args m c).ms'
      ∧ r.2.mem ((c.tc : Thread nD τ).loc main_v0_8) = (args m c).vc'
      ∧ r.2.mem ((c.tc : Thread nD τ).loc main_v0_9) = (args m c).vs'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 17).trans (arr_17 m c),
    ((h c).1 18).trans (arr_18 m c),
    ((h c).1 19).trans (arr_19 m c),
    ((h c).1 20).trans (arr_20 m c),
    ((h c).1 21).trans (arr_21 m c),
    ((h c).1 22).trans (arr_22 m c),
    ((h c).1 23).trans (arr_23 m c),
    ((h c).1 24).trans (arr_24 m c),
    ((h c).1 25).trans (arr_25 m c),
    ((h c).1 26).trans (arr_26 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c))),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c))),
    ((h c).1 15).trans (((dats m 0 c).arrAt_in 15 rfl _).trans ((A_eq m c 15).trans (V_main_arg15 m c))),
    ((h c).1 16).trans (((dats m 0 c).arrAt_in 16 rfl _).trans ((A_eq m c 16).trans (V_main_arg16 m c)))⟩) (run_main m ρ)

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelVal
public import proofs.«01_k».proof.Proof.RefVal
public import Idealize.ShloMosaic.Adequacy
public import Idealize.ShloMosaic.Init

@[expose] public section

noncomputable section

namespace Cert.Proof

open Idealize.ShloMosaic Idealize.SL.Sem Cert.Kernel

set_option maxHeartbeats 4000000 in
/-- From the same arguments, kernel and reference end with the same ten results. -/
theorem algebraic [Cert.KernelIdeal.Facts] [Cert.ReferenceIdeal.Facts] : Cert.algebraic_KernelIdeal_ReferenceIdeal := by
  intro m g m' g' _ hag
  have ha : ∀ c, Cert.ReferenceIdeal.Value.args m' c = Cert.KernelIdeal.Value.args m c := fun c => by
    obtain ⟨h0, h1, h2, h3, h4, h5, h6, h7, h8, h9, h10, h11, h12, h13, h14, h15, h16⟩ := hag c
    unfold Cert.ReferenceIdeal.Value.args Cert.KernelIdeal.Value.args
    congr 1
  refine ⟨fun c => (Cert.KernelIdeal.Value.args m c).w', fun c => (Cert.KernelIdeal.Value.args m c).u, fun c => (Cert.KernelIdeal.Value.args m c).l', fun c => (Cert.KernelIdeal.Value.args m c).r', fun c => (Cert.KernelIdeal.Value.args m c).pl, fun c => (Cert.KernelIdeal.Value.args m c).pr, fun c => (Cert.KernelIdeal.Value.args m c).mc', fun c => (Cert.KernelIdeal.Value.args m c).ms', fun c => (Cert.KernelIdeal.Value.args m c).vc', fun c => (Cert.KernelIdeal.Value.args m c).vs',
    Cert.KernelIdeal.Value.run m g, ?_⟩
  have h := Cert.ReferenceIdeal.Value.run m' g'
  simp only [ha] at h
  exact h

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
